-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S131072x128 : Shape := ⟨2, ![131072, 128]⟩
abbrev S131072 : Shape := ⟨1, ![131072]⟩
abbrev S128x128 : Shape := ⟨2, ![128, 128]⟩
abbrev S128 : Shape := ⟨1, ![128]⟩
abbrev S3 : Shape := ⟨1, ![3]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel
  bcast_S_S131072x128 : S_.BroadcastsInDim S131072x128 (![] : Fin 0 → Fin S131072x128.rank)
  reducesTo_S131072x128_S_d0_1 : S131072x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v15 : IVec S_ 1) (main_v16 : FVec F S128 .f32) : IVec S_ 1 :=
  let main_cst_5 : FVec F S_ .f32 := constant S_ .f32 0x7F800000#32
  let main_v17 : FVec F S128 .f32 := broadcastInDim S128 ![] bcast_S_S128 main_cst_5
  let main_v18 : IVec S128 1 := cmpf .olt main_v16 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v15 main_v19
  main_v20

def fn {F : FTy → Type} [FloatOps F] (main_arg0 : FVec F S131072x128 .f32) (main_arg1 : IVec S131072 32) (main_arg2 : FVec F S128x128 .f32) (main_arg3 : FVec F S128 .f32) (main_arg4 : FVec F S3 .f32) : IVec S_ 1 :=
  let main_c : IVec S_ 32 := constantI S_ 32 0#32
  let main_v0 : IVec S131072 32 := broadcastInDim S131072 ![] bcast_S_S131072 main_c
  let main_v1 : IVec S131072 1 := cmpi .sge main_arg1 main_v0
  let main_c_0 : IVec S_ 32 := constantI S_ 32 64#32
  let main_v2 : IVec S131072 32 := broadcastInDim S131072 ![] bcast_S_S131072 main_c_0
  let main_v3 : IVec S131072 1 := cmpi .slt main_arg1 main_v2
  let main_v4 : IVec S131072 1 := andi main_v1 main_v3
  let main_c_1 : IVec S_ 1 := constantI S_ 1 1#1
  let main_v5 : IVec S_ 1 := (fun x v => Host.reduce IntOp.andi x v reducesTo_S131072_S_d0 h_S_) main_v4 main_c_1
  let main_v6 : FVec F S131072x128 .f32 := Host.absf main_arg0
  let main_cst : FVec F S_ .f32 := constant S_ .f32 0x7F800000#32
  let main_v7 : FVec F S131072x128 .f32 := broadcastInDim S131072x128 ![] bcast_S_S131072x128 main_cst
  let main_v8 : IVec S131072x128 1 := cmpf .olt main_v6 main_v7
  let main_c_2 : IVec S_ 1 := constantI S_ 1 1#1
  let main_v9 : IVec S_ 1 := (fun x v => Host.reduce IntOp.andi x v reducesTo_S131072x128_S_d0_1 h_S_) main_v8 main_c_2
  let main_v10 : IVec S_ 1 := andi main_v5 main_v9
  let main_v11 : FVec F S128x128 .f32 := Host.absf main_arg2
  let main_cst_3 : FVec F S_ .f32 := constant S_ .f32 0x7F800000#32
  let main_v12 : FVec F S128x128 .f32 := broadcastInDim S128x128 ![] bcast_S_S128x128 main_cst_3
  let main_v13 : IVec S128x128 1 := cmpf .olt main_v11 main_v12
  let main_c_4 : IVec S_ 1 := constantI S_ 1 1#1
  let main_v14 : IVec S_ 1 := (fun x v => Host.reduce IntOp.andi x v reducesTo_S128x128_S_d0_1 h_S_) main_v13 main_c_4
  let main_v15 : IVec S_ 1 := andi main_v10 main_v14
  let main_v16 : FVec F S128 .f32 := Host.absf main_arg3
  fn_part1 (F := F) main_v15 main_v16
-- ==== Kernel.lean ====
abbrev S131072x128 : Shape := ⟨2, ![131072, 128]⟩
abbrev S131072 : Shape := ⟨1, ![131072]⟩
abbrev S128x128 : Shape := ⟨2, ![128, 128]⟩
abbrev S128 : Shape := ⟨1, ![128]⟩
abbrev S3 : Shape := ⟨1, ![3]⟩
abbrev S8x1x16384 : Shape := ⟨3, ![8, 1, 16384]⟩
abbrev S1x128 : Shape := ⟨2, ![1, 128]⟩
abbrev S1 : Shape := ⟨1, ![1]⟩
abbrev S_ : Shape := ⟨0, ![]⟩
abbrev S64x256 : Shape := ⟨2, ![64, 256]⟩
abbrev S64x128 : Shape := ⟨2, ![64, 128]⟩
abbrev S2x16384x128 : Shape := ⟨3, ![2, 16384, 128]⟩
abbrev S2 : Shape := ⟨1, ![2]⟩
abbrev S1x16384x128 : Shape := ⟨3, ![1, 16384, 128]⟩
abbrev S16384x128 : Shape := ⟨2, ![16384, 128]⟩
abbrev S1x1x16384 : Shape := ⟨3, ![1, 1, 16384]⟩
abbrev S1x16384 : Shape := ⟨2, ![1, 16384]⟩
abbrev S16384 : Shape := ⟨1, ![16384]⟩
abbrev S64x16384 : Shape := ⟨2, ![64, 16384]⟩
abbrev S16384x256 : Shape := ⟨2, ![16384, 256]⟩
abbrev S64 : Shape := ⟨1, ![64]⟩
abbrev S64x1 : Shape := ⟨2, ![64, 1]⟩

abbrev nBuf : Space → Nat
  | .hbm => 43
  | .vmem => 10
  | .smem => 0
  | _ => 0

abbrev bufTy : (tb : Table) → Fin (tcTables nBuf tb) → BufTy
  | .hbm, ⟨0, _⟩ => ⟨S131072x128, .f32⟩
  | .hbm, ⟨1, _⟩ => ⟨S131072, .i32⟩
  | .hbm, ⟨2, _⟩ => ⟨S128x128, .f32⟩
  | .hbm, ⟨3, _⟩ => ⟨S128, .f32⟩
  | .hbm, ⟨4, _⟩ => ⟨S3, .f32⟩
  | .hbm, ⟨5, _⟩ => ⟨S8x1x16384, .i32⟩
  | .hbm, ⟨6, _⟩ => ⟨S1x128, .f32⟩
  | .hbm, ⟨7, _⟩ => ⟨S1, .f32⟩
  | .hbm, ⟨8, _⟩ => ⟨S_, .f32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S1, .f32⟩
  | .hbm, ⟨19, _⟩ => ⟨S_, .f32⟩
  | .hbm, ⟨20, _⟩ => ⟨S128x128, .i32⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S128x128, .i1⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S1, .f32⟩
  | .hbm, ⟨31, _⟩ => ⟨S_, .f32⟩
  | .hbm, ⟨32, _⟩ => ⟨S128x128, .i32⟩
  | .hbm, ⟨33, _⟩ => ⟨S128x128, .i32⟩
  | .hbm, ⟨34, _⟩ => ⟨S_, .i32⟩
  | .hbm, ⟨35, _⟩ => ⟨S128x128, .i32⟩
  | .hbm, ⟨36, _⟩ => ⟨S128x128, .i32⟩
  | .hbm, ⟨37, _⟩ => ⟨S128x128, .i1⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S131072x128, .f32⟩
  | .local _ .vmem, ⟨0, _⟩ => ⟨S8x1x16384, .i32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S131072x128, .bf16⟩
  | .local _ .vmem, ⟨5, _⟩ => ⟨S64x256, .f32⟩
  | .local _ .vmem, ⟨6, _⟩ => ⟨S64x128, .f32⟩
  | .local _ .vmem, ⟨7, _⟩ => ⟨S64x128, .f32⟩
  | .local _ .vmem, ⟨8, _⟩ => ⟨S2x16384x128, .f32⟩
  | .local _ .vmem, ⟨9, _⟩ => ⟨S2x16384x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scoped0 : Ref sig .tc := ⟨.vmem, 8, rfl⟩
abbrev cc0_scoped2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 : Fin 1 → Nat :=
  let c0_i32_38_r0 : BitVec 32 := 0#32
  let c2_i32_r0 : BitVec 32 := 2#32
  let v54_r0 : BitVec 32 := Scalar.remui c0_i32_38_r0 c2_i32_r0
  ![v54_r0.toNat]
def k0_off2 : Fin 3 → Nat :=
  let c0_i32_38_r0 : BitVec 32 := 0#32
  let c2_i32_r0 : BitVec 32 := 2#32
  let v54_r0 : BitVec 32 := Scalar.remui c0_i32_38_r0 c2_i32_r0
  let c0_i32_39_r0 : BitVec 32 := 0#32
  let c0_i32_40_r0 : BitVec 32 := 0#32
  ![v54_r0.toNat, 0, 0]
@[reducible] def k0_t1_loop : Scf.Loop 32 :=
  let c0_i32_47_r0 : BitVec 32 := 0#32
  let c8_i32_48_r0 : BitVec 32 := 8#32
  let v61_r0 : BitVec 32 := Scalar.addi c0_i32_47_r0 c8_i32_48_r0
  let c1_i32_49_r0 : BitVec 32 := 1#32
  ⟨c0_i32_47_r0, v61_r0, c1_i32_49_r0⟩
def k0_off3 (arg11_r0 : BitVec 32) : Fin 1 → Nat :=
  let c2_i32_123_r0 : BitVec 32 := 2#32
  let v180_r0 : BitVec 32 := Scalar.remui arg11_r0 c2_i32_123_r0
  ![v180_r0.toNat]
def k0_cond1 (k0_t1 : Fin k0_t1_loop.trips) (arg13_r0 : BitVec 32) : BitVec 1 :=
  let c0_i32_73_r0 : BitVec 32 := 0#32
  let v85_r0 : BitVec 32 := Scalar.addi arg13_r0 c0_i32_73_r0
  let true_80_r0 : BitVec 1 := 1#1
  let c1_i32_79_r0 : BitVec 32 := 1#32
  let v91_r0 : BitVec 32 := Scalar.addi arg13_r0 c1_i32_79_r0
  let v92_r0 : BitVec 32 := Scalar.select true_80_r0 v91_r0 arg13_r0
  let c8_i32_81_r0 : BitVec 32 := 8#32
  let v93_r0 : BitVec 1 := Scalar.cmpi .eq v92_r0 c8_i32_81_r0
  let c0_i32_82_r0 : BitVec 32 := 0#32
  let v94_r0 : BitVec 32 := Scalar.select v93_r0 c0_i32_82_r0 v92_r0
  let c0_i32_83_r0 : BitVec 32 := 0#32
  let v95_r0 : BitVec 32 := Scalar.addi v94_r0 c0_i32_83_r0
  let v101_r0 : BitVec 1 := Scalar.cmpi .ne v85_r0 v95_r0
  let c0_i32_47_r0 : BitVec 32 := 0#32
  let c1_i32_49_r0 : BitVec 32 := 1#32
  let arg10_r0 : BitVec 32 := Scf.iv c0_i32_47_r0 c1_i32_49_r0 k0_t1
  let c7_i32_89_r0 : BitVec 32 := 7#32
  let v102_r0 : BitVec 1 := Scalar.cmpi .sge arg10_r0 c7_i32_89_r0
  let true_90_r0 : BitVec 1 := 1#1
  let v103_r0 : BitVec 1 := Scalar.xori v102_r0 true_90_r0
  let v104_r0 : BitVec 1 := Scalar.andi v101_r0 v103_r0
  let true_91_r0 : BitVec 1 := 1#1
  let v105_r0 : BitVec 1 := Scalar.andi v104_r0 true_91_r0
  let v106_r0 : BitVec 32 := Scalar.extui v105_r0
  let c0_i32_92_r0 : BitVec 32 := 0#32
  let v107_r0 : BitVec 1 := Scalar.cmpi .ne v106_r0 c0_i32_92_r0
  v107_r0

def k0_off4 (arg11_r0 : BitVec 32) : Fin 3 → Nat :=
  let c2_i32_123_r0 : BitVec 32 := 2#32
  let v180_r0 : BitVec 32 := Scalar.remui arg11_r0 c2_i32_123_r0
  let c0_i32_125_r0 : BitVec 32 := 0#32
  let c0_i32_126_r0 : BitVec 32 := 0#32
  ![v180_r0.toNat, 0, 0]
def k0_off5 (arg13_r0 : BitVec 32) : Fin 2 → Nat :=
  let c16384_i32_124_r0 : BitVec 32 := 16384#32
  let true_80_r0 : BitVec 1 := 1#1
  let c1_i32_79_r0 : BitVec 32 := 1#32
  let v91_r0 : BitVec 32 := Scalar.addi arg13_r0 c1_i32_79_r0
  let v92_r0 : BitVec 32 := Scalar.select true_80_r0 v91_r0 arg13_r0
  let c8_i32_81_r0 : BitVec 32 := 8#32
  let v93_r0 : BitVec 1 := Scalar.cmpi .eq v92_r0 c8_i32_81_r0
  let c0_i32_82_r0 : BitVec 32 := 0#32
  let v94_r0 : BitVec 32 := Scalar.select v93_r0 c0_i32_82_r0 v92_r0
  let c0_i32_83_r0 : BitVec 32 := 0#32
  let v95_r0 : BitVec 32 := Scalar.addi v94_r0 c0_i32_83_r0
  let v181_r0 : BitVec 32 := Scalar.muli c16384_i32_124_r0 v95_r0
  let c0_i32_127_r0 : BitVec 32 := 0#32
  ![v181_r0.toNat, 0]
def k0_off6 (arg12_r0 : BitVec 32) : Fin 1 → Nat :=
  let c2_i32_124_r0 : BitVec 32 := 2#32
  let v181_r0 : BitVec 32 := Scalar.remui arg12_r0 c2_i32_124_r0
  ![v181_r0.toNat]
def k0_cond2 (k0_t1 : Fin k0_t1_loop.trips) (arg13_r0 : BitVec 32) : BitVec 1 :=
  let c0_i32_73_r0 : BitVec 32 := 0#32
  let v85_r0 : BitVec 32 := Scalar.addi arg13_r0 c0_i32_73_r0
  let true_75_r0 : BitVec 1 := 1#1
  let c1_i32_74_r0 : BitVec 32 := 1#32
  let v86_r0 : BitVec 32 := Scalar.subi arg13_r0 c1_i32_74_r0
  let v87_r0 : BitVec 32 := Scalar.select true_75_r0 v86_r0 arg13_r0
  let c_m1_i32_76_r0 : BitVec 32 := 4294967295#32
  let v88_r0 : BitVec 1 := Scalar.cmpi .eq v87_r0 c_m1_i32_76_r0
  let c7_i32_77_r0 : BitVec 32 := 7#32
  let v89_r0 : BitVec 32 := Scalar.select v88_r0 c7_i32_77_r0 v87_r0
  let c0_i32_78_r0 : BitVec 32 := 0#32
  let v90_r0 : BitVec 32 := Scalar.addi v89_r0 c0_i32_78_r0
  let v111_r0 : BitVec 1 := Scalar.cmpi .ne v85_r0 v90_r0
  let c0_i32_47_r0 : BitVec 32 := 0#32
  let c1_i32_49_r0 : BitVec 32 := 1#32
  let arg10_r0 : BitVec 32 := Scf.iv c0_i32_47_r0 c1_i32_49_r0 k0_t1
  let c0_i32_71_r0 : BitVec 32 := 0#32
  let v83_r0 : BitVec 1 := Scalar.cmpi .eq arg10_r0 c0_i32_71_r0
  let v112_r0 : BitVec 1 := Scalar.ori v111_r0 v83_r0
  let c0_i32_95_r0 : BitVec 32 := 0#32
  let v113_r0 : BitVec 1 := Scalar.cmpi .sge arg10_r0 c0_i32_95_r0
  let v114_r0 : BitVec 1 := Scalar.andi v112_r0 v113_r0
  let v115_r0 : BitVec 32 := Scalar.extui v114_r0
  let c0_i32_96_r0 : BitVec 32 := 0#32
  let v116_r0 : BitVec 1 := Scalar.cmpi .ne v115_r0 c0_i32_96_r0
  v116_r0

def k0_off7 (arg12_r0 : BitVec 32) : Fin 3 → Nat :=
  let c2_i32_124_r0 : BitVec 32 := 2#32
  let v181_r0 : BitVec 32 := Scalar.remui arg12_r0 c2_i32_124_r0
  let c0_i32_125_r0 : BitVec 32 := 0#32
  let c0_i32_126_r0 : BitVec 32 := 0#32
  ![v181_r0.toNat, 0, 0]
def k0_off8 (arg13_r0 : BitVec 32) : Fin 2 → Nat :=
  let c16384_i32_123_r0 : BitVec 32 := 16384#32
  let c0_i32_73_r0 : BitVec 32 := 0#32
  let v85_r0 : BitVec 32 := Scalar.addi arg13_r0 c0_i32_73_r0
  let v180_r0 : BitVec 32 := Scalar.muli c16384_i32_123_r0 v85_r0
  let c0_i32_127_r0 : BitVec 32 := 0#32
  ![v180_r0.toNat, 0]
def k0_off9 (arg12_r0 : BitVec 32) : Fin 3 → Nat :=
  let c2_i32_97_r0 : BitVec 32 := 2#32
  let v117_r0 : BitVec 32 := Scalar.remui arg12_r0 c2_i32_97_r0
  let v118_r0 : Index := Scalar.indexCast v117_r0
  let c0_98_r0 : Index := 0#32
  let c0_99_r0 : Index := 0#32
  ![v118_r0.toNat, 0, 0]

def k0_chk2 (arg12_r0 : BitVec 32) : Prop :=
  (∀ a, (k0_off9 arg12_r0) a + S1x16384x128.size a ≤ S2x16384x128.size a)
theorem k0_off9_inb : ∀ (arg12_r0 : BitVec 32) (k0_hw2 : k0_chk2 arg12_r0), ∀ a, (k0_off9 arg12_r0) a + S1x16384x128.size a ≤ S2x16384x128.size a := fun arg12_r0 k0_hw2 => k0_hw2

def k0_off10 (arg13_r0 : BitVec 32) : Fin 2 → Nat :=
  let c0_i32_73_r0 : BitVec 32 := 0#32
  let v85_r0 : BitVec 32 := Scalar.addi arg13_r0 c0_i32_73_r0
  let c16384_i32_r0 : BitVec 32 := 16384#32
  let v126_r0 : BitVec 32 := Scalar.muli v85_r0 c16384_i32_r0
  let v127_r0 : Index := Scalar.indexCast v126_r0
  let c0_101_r0 : Index := 0#32
  ![v127_r0.toNat, 0]
def k0_off11 (arg13_r0 : BitVec 32) : Fin 3 → Nat :=
  let c0_i32_73_r0 : BitVec 32 := 0#32
  let v85_r0 : BitVec 32 := Scalar.addi arg13_r0 c0_i32_73_r0
  let v131_r0 : Index := Scalar.indexCast v85_r0
  let c0_102_r0 : Index := 0#32
  let c0_103_r0 : Index := 0#32
  ![v131_r0.toNat, 0, 0]

def k0_chk1 (k0_t1 : Fin k0_t1_loop.trips) (arg11_r0 : BitVec 32) (arg12_r0 : BitVec 32) (arg13_r0 : BitVec 32) : Prop :=
  (∀ (k0_h1 : k0_cond1 k0_t1 arg13_r0 = 1#1), ∀ a, (k0_off3 arg11_r0) a + S1.size a ≤ S2.size a) ∧
  (∀ (k0_h1 : k0_cond1 k0_t1 arg13_r0 = 1#1), ∀ a, (k0_off4 arg11_r0) a + S1x16384x128.size a ≤ S2x16384x128.size a) ∧
  (∀ (k0_h1 : k0_cond1 k0_t1 arg13_r0 = 1#1), ∀ a, (k0_off5 arg13_r0) a + S16384x128.size a ≤ S131072x128.size a) ∧
  (∀ (k0_h2 : k0_cond2 k0_t1 arg13_r0 = 1#1), ∀ a, (k0_off6 arg12_r0) a + S1.size a ≤ S2.size a) ∧
  (∀ (k0_h2 : k0_cond2 k0_t1 arg13_r0 = 1#1), ∀ a, (k0_off7 arg12_r0) a + S1x16384x128.size a ≤ S2x16384x128.size a) ∧
  (∀ (k0_h2 : k0_cond2 k0_t1 arg13_r0 = 1#1), ∀ a, (k0_off8 arg13_r0) a + S16384x128.size a ≤ S131072x128.size a) ∧
  (∀ a, (k0_off10 arg13_r0) a + S16384x128.size a ≤ S131072x128.size a) ∧
  (∀ (hinb : ∀ a, (k0_off10 arg13_r0) a + S16384x128.size a ≤ S131072x128.size a), (Rect.unit (s := S131072x128) (k0_off10 arg13_r0) S16384x128.size hinb).PackedRows (EltTy.packing .bf16)) ∧
  (∀ a, (k0_off11 arg13_r0) a + S1x1x16384.size a ≤ S8x1x16384.size a)
theorem k0_off3_inb : ∀ (k0_t1 : Fin k0_t1_loop.trips) (arg11_r0 : BitVec 32) (arg12_r0 : BitVec 32) (arg13_r0 : BitVec 32) (k0_hw1 : k0_chk1 k0_t1 arg11_r0 arg12_r0 arg13_r0), ∀ (k0_h1 : k0_cond1 k0_t1 arg13_r0 = 1#1), ∀ a, (k0_off3 arg11_r0) a + S1.size a ≤ S2.size a := fun k0_t1 arg11_r0 arg12_r0 arg13_r0 k0_hw1 k0_h1 => k0_hw1.1 k0_h1
theorem k0_off4_inb : ∀ (k0_t1 : Fin k0_t1_loop.trips) (arg11_r0 : BitVec 32) (arg12_r0 : BitVec 32) (arg13_r0 : BitVec 32) (k0_hw1 : k0_chk1 k0_t1 arg11_r0 arg12_r0 arg13_r0), ∀ (k0_h1 : k0_cond1 k0_t1 arg13_r0 = 1#1), ∀ a, (k0_off4 arg11_r0) a + S1x16384x128.size a ≤ S2x16384x128.size a := fun k0_t1 arg11_r0 arg12_r0 arg13_r0 k0_hw1 k0_h1 => k0_hw1.2.1 k0_h1
theorem k0_off5_inb : ∀ (k0_t1 : Fin k0_t1_loop.trips) (arg11_r0 : BitVec 32) (arg12_r0 : BitVec 32) (arg13_r0 : BitVec 32) (k0_hw1 : k0_chk1 k0_t1 arg11_r0 arg12_r0 arg13_r0), ∀ (k0_h1 : k0_cond1 k0_t1 arg13_r0 = 1#1), ∀ a, (k0_off5 arg13_r0) a + S16384x128.size a ≤ S131072x128.size a := fun k0_t1 arg11_r0 arg12_r0 arg13_r0 k0_hw1 k0_h1 => k0_hw1.2.2.1 k0_h1
theorem k0_off6_inb : ∀ (k0_t1 : Fin k0_t1_loop.trips) (arg11_r0 : BitVec 32) (arg12_r0 : BitVec 32) (arg13_r0 : BitVec 32) (k0_hw1 : k0_chk1 k0_t1 arg11_r0 arg12_r0 arg13_r0), ∀ (k0_h2 : k0_cond2 k0_t1 arg13_r0 = 1#1), ∀ a, (k0_off6 arg12_r0) a + S1.size a ≤ S2.size a := fun k0_t1 arg11_r0 arg12_r0 arg13_r0 k0_hw1 k0_h2 => k0_hw1.2.2.2.1 k0_h2
theorem k0_off7_inb : ∀ (k0_t1 : Fin k0_t1_loop.trips) (arg11_r0 : BitVec 32) (arg12_r0 : BitVec 32) (arg13_r0 : BitVec 32) (k0_hw1 : k0_chk1 k0_t1 arg11_r0 arg12_r0 arg13_r0), ∀ (k0_h2 : k0_cond2 k0_t1 arg13_r0 = 1#1), ∀ a, (k0_off7 arg12_r0) a + S1x16384x128.size a ≤ S2x16384x128.size a := fun k0_t1 arg11_r0 arg12_r0 arg13_r0 k0_hw1 k0_h2 => k0_hw1.2.2.2.2.1 k0_h2
theorem k0_off8_inb : ∀ (k0_t1 : Fin k0_t1_loop.trips) (arg11_r0 : BitVec 32) (arg12_r0 : BitVec 32) (arg13_r0 : BitVec 32) (k0_hw1 : k0_chk1 k0_t1 arg11_r0 arg12_r0 arg13_r0), ∀ (k0_h2 : k0_cond2 k0_t1 arg13_r0 = 1#1), ∀ a, (k0_off8 arg13_r0) a + S16384x128.size a ≤ S131072x128.size a := fun k0_t1 arg11_r0 arg12_r0 arg13_r0 k0_hw1 k0_h2 => k0_hw1.2.2.2.2.2.1 k0_h2
theorem k0_off10_inb : ∀ (k0_t1 : Fin k0_t1_loop.trips) (arg11_r0 : BitVec 32) (arg12_r0 : BitVec 32) (arg13_r0 : BitVec 32) (k0_hw1 : k0_chk1 k0_t1 arg11_r0 arg12_r0 arg13_r0), ∀ a, (k0_off10 arg13_r0) a + S16384x128.size a ≤ S131072x128.size a := fun k0_t1 arg11_r0 arg12_r0 arg13_r0 k0_hw1 => k0_hw1.2.2.2.2.2.2.1
theorem k0_off10_packedbf16 : ∀ (k0_t1 : Fin k0_t1_loop.trips) (arg11_r0 : BitVec 32) (arg12_r0 : BitVec 32) (arg13_r0 : BitVec 32) (k0_hw1 : k0_chk1 k0_t1 arg11_r0 arg12_r0 arg13_r0), (Rect.unit (s := S131072x128) (k0_off10 arg13_r0) S16384x128.size (k0_off10_inb k0_t1 arg11_r0 arg12_r0 arg13_r0 k0_hw1)).PackedRows (EltTy.packing .bf16) := fun k0_t1 arg11_r0 arg12_r0 arg13_r0 k0_hw1 => k0_hw1.2.2.2.2.2.2.2.1 (k0_off10_inb k0_t1 arg11_r0 arg12_r0 arg13_r0 k0_hw1)
theorem k0_off11_inb : ∀ (k0_t1 : Fin k0_t1_loop.trips) (arg11_r0 : BitVec 32) (arg12_r0 : BitVec 32) (arg13_r0 : BitVec 32) (k0_hw1 : k0_chk1 k0_t1 arg11_r0 arg12_r0 arg13_r0), ∀ a, (k0_off11 arg13_r0) a + S1x1x16384.size a ≤ S8x1x16384.size a := fun k0_t1 arg11_r0 arg12_r0 arg13_r0 k0_hw1 => k0_hw1.2.2.2.2.2.2.2.2

@[reducible] def k0_t2_loop : Scf.Loop 32 :=
  let c0_i32 : BitVec 32 := 0#32
  let c8_i32 : BitVec 32 := 8#32
  let v30 : BitVec 32 := Scalar.addi c0_i32 c8_i32
  let c1_i32 : BitVec 32 := 1#32
  ⟨c0_i32, v30, c1_i32⟩
def k0_off12 (k0_t2 : Fin k0_t2_loop.trips) : Fin 3 → Nat :=
  let c0_i32 : BitVec 32 := 0#32
  let c1_i32 : BitVec 32 := 1#32
  let arg10 : BitVec 32 := Scf.iv c0_i32 c1_i32 k0_t2
  let v40 : Index := Scalar.indexCast arg10
  let c0_24 : Index := 0#32
  let c0_25 : Index := 0#32
  ![v40.toNat, 0, 0]
def k0_off13 (k0_t2 : Fin k0_t2_loop.trips) : Fin 2 → Nat :=
  let c0_i32 : BitVec 32 := 0#32
  let c1_i32 : BitVec 32 := 1#32
  let arg10 : BitVec 32 := Scf.iv c0_i32 c1_i32 k0_t2
  let c16384_i32 : BitVec 32 := 16384#32
  let v53 : BitVec 32 := Scalar.muli arg10 c16384_i32
  let v54 : Index := Scalar.indexCast v53
  let c0_27 : Index := 0#32
  ![v54.toNat, 0]
@[reducible] def k0_t3_loop : Scf.Loop 32 :=
  let c0_i32_41_r1 : BitVec 32 := 0#32
  let c8_i32_42_r1 : BitVec 32 := 8#32
  let v54_r1 : BitVec 32 := Scalar.addi c0_i32_41_r1 c8_i32_42_r1
  let c1_i32_43_r1 : BitVec 32 := 1#32
  ⟨c0_i32_41_r1, v54_r1, c1_i32_43_r1⟩
def k0_off14 (arg13_r1 : BitVec 32) : Fin 3 → Nat :=
  let c0_i32_70_r1 : BitVec 32 := 0#32
  let v85_r1 : BitVec 32 := Scalar.addi arg13_r1 c0_i32_70_r1
  let v112_r1 : Index := Scalar.indexCast v85_r1
  let c0_91_r1 : Index := 0#32
  let c0_92_r1 : Index := 0#32
  ![v112_r1.toNat, 0, 0]

def k0_off15 (arg13_r1 : BitVec 32) : Fin 2 → Nat :=
  let c0_i32_70_r1 : BitVec 32 := 0#32
  let v85_r1 : BitVec 32 := Scalar.addi arg13_r1 c0_i32_70_r1
  let c16384_i32_94_r1 : BitVec 32 := 16384#32
  let v124_r1 : BitVec 32 := Scalar.muli v85_r1 c16384_i32_94_r1
  let v125_r1 : Index := Scalar.indexCast v124_r1
  let c0_95_r1 : Index := 0#32
  ![v125_r1.toNat, 0]
def k0_off16 (arg11_r1 : BitVec 32) : Fin 3 → Nat :=
  let c2_i32_90_r1 : BitVec 32 := 2#32
  let v111_r1 : BitVec 32 := Scalar.remui arg11_r1 c2_i32_90_r1
  let v129_r1 : Index := Scalar.indexCast v111_r1
  let c0_96_r1 : Index := 0#32
  let c0_97_r1 : Index := 0#32
  ![v129_r1.toNat, 0, 0]

def k0_chk4 (arg11_r1 : BitVec 32) : Prop :=
  (∀ a, (k0_off16 arg11_r1) a + S1x16384x128.size a ≤ S2x16384x128.size a)
theorem k0_off16_inb : ∀ (arg11_r1 : BitVec 32) (k0_hw4 : k0_chk4 arg11_r1), ∀ a, (k0_off16 arg11_r1) a + S1x16384x128.size a ≤ S2x16384x128.size a := fun arg11_r1 k0_hw4 => k0_hw4

def k0_off17 (arg11_r1 : BitVec 32) : Fin 1 → Nat :=
  let c2_i32_109_r1 : BitVec 32 := 2#32
  let v152_r1 : BitVec 32 := Scalar.remui arg11_r1 c2_i32_109_r1
  ![v152_r1.toNat]
def k0_cond6 (k0_t3 : Fin k0_t3_loop.trips) (arg13_r1 : BitVec 32) : BitVec 1 :=
  let c0_i32_70_r1 : BitVec 32 := 0#32
  let v85_r1 : BitVec 32 := Scalar.addi arg13_r1 c0_i32_70_r1
  let true_77_r1 : BitVec 1 := 1#1
  let c1_i32_76_r1 : BitVec 32 := 1#32
  let v91_r1 : BitVec 32 := Scalar.addi arg13_r1 c1_i32_76_r1
  let v92_r1 : BitVec 32 := Scalar.select true_77_r1 v91_r1 arg13_r1
  let c8_i32_78_r1 : BitVec 32 := 8#32
  let v93_r1 : BitVec 1 := Scalar.cmpi .eq v92_r1 c8_i32_78_r1
  let c0_i32_79_r1 : BitVec 32 := 0#32
  let v94_r1 : BitVec 32 := Scalar.select v93_r1 c0_i32_79_r1 v92_r1
  let c0_i32_80_r1 : BitVec 32 := 0#32
  let v95_r1 : BitVec 32 := Scalar.addi v94_r1 c0_i32_80_r1
  let v133_r1 : BitVec 1 := Scalar.cmpi .ne v85_r1 v95_r1
  let c0_i32_41_r1 : BitVec 32 := 0#32
  let c1_i32_43_r1 : BitVec 32 := 1#32
  let arg10_r1 : BitVec 32 := Scf.iv c0_i32_41_r1 c1_i32_43_r1 k0_t3
  let c7_i32_69_r1 : BitVec 32 := 7#32
  let v84_r1 : BitVec 1 := Scalar.cmpi .eq arg10_r1 c7_i32_69_r1
  let v134_r1 : BitVec 1 := Scalar.ori v133_r1 v84_r1
  let v135_r1 : BitVec 32 := Scalar.extui v134_r1
  let c0_i32_98_r1 : BitVec 32 := 0#32
  let v136_r1 : BitVec 1 := Scalar.cmpi .ne v135_r1 c0_i32_98_r1
  v136_r1

def k0_off18 (arg13_r1 : BitVec 32) : Fin 2 → Nat :=
  let c16384_i32_110_r1 : BitVec 32 := 16384#32
  let c0_i32_70_r1 : BitVec 32 := 0#32
  let v85_r1 : BitVec 32 := Scalar.addi arg13_r1 c0_i32_70_r1
  let v153_r1 : BitVec 32 := Scalar.muli c16384_i32_110_r1 v85_r1
  let c0_i32_111_r1 : BitVec 32 := 0#32
  ![v153_r1.toNat, 0]
def k0_off19 (arg11_r1 : BitVec 32) : Fin 3 → Nat :=
  let c2_i32_109_r1 : BitVec 32 := 2#32
  let v152_r1 : BitVec 32 := Scalar.remui arg11_r1 c2_i32_109_r1
  let c0_i32_112_r1 : BitVec 32 := 0#32
  let c0_i32_113_r1 : BitVec 32 := 0#32
  ![v152_r1.toNat, 0, 0]
def k0_off20 (arg12_r1 : BitVec 32) : Fin 1 → Nat :=
  let c2_i32_109_r1 : BitVec 32 := 2#32
  let v152_r1 : BitVec 32 := Scalar.remui arg12_r1 c2_i32_109_r1
  ![v152_r1.toNat]
def k0_cond7 (k0_t3 : Fin k0_t3_loop.trips) (arg13_r1 : BitVec 32) : BitVec 1 :=
  let c0_i32_70_r1 : BitVec 32 := 0#32
  let v85_r1 : BitVec 32 := Scalar.addi arg13_r1 c0_i32_70_r1
  let true_72_r1 : BitVec 1 := 1#1
  let c1_i32_71_r1 : BitVec 32 := 1#32
  let v86_r1 : BitVec 32 := Scalar.subi arg13_r1 c1_i32_71_r1
  let v87_r1 : BitVec 32 := Scalar.select true_72_r1 v86_r1 arg13_r1
  let c_m1_i32_73_r1 : BitVec 32 := 4294967295#32
  let v88_r1 : BitVec 1 := Scalar.cmpi .eq v87_r1 c_m1_i32_73_r1
  let c7_i32_74_r1 : BitVec 32 := 7#32
  let v89_r1 : BitVec 32 := Scalar.select v88_r1 c7_i32_74_r1 v87_r1
  let c0_i32_75_r1 : BitVec 32 := 0#32
  let v90_r1 : BitVec 32 := Scalar.addi v89_r1 c0_i32_75_r1
  let v140_r1 : BitVec 1 := Scalar.cmpi .ne v85_r1 v90_r1
  let c0_i32_41_r1 : BitVec 32 := 0#32
  let c1_i32_43_r1 : BitVec 32 := 1#32
  let arg10_r1 : BitVec 32 := Scf.iv c0_i32_41_r1 c1_i32_43_r1 k0_t3
  let c0_i32_68_r1 : BitVec 32 := 0#32
  let v83_r1 : BitVec 1 := Scalar.cmpi .eq arg10_r1 c0_i32_68_r1
  let true_101_r1 : BitVec 1 := 1#1
  let v141_r1 : BitVec 1 := Scalar.xori v83_r1 true_101_r1
  let v142_r1 : BitVec 1 := Scalar.andi v140_r1 v141_r1
  let v143_r1 : BitVec 32 := Scalar.extui v142_r1
  let c0_i32_102_r1 : BitVec 32 := 0#32
  let v144_r1 : BitVec 1 := Scalar.cmpi .ne v143_r1 c0_i32_102_r1
  v144_r1

def k0_off21 (arg13_r1 : BitVec 32) : Fin 2 → Nat :=
  let c16384_i32_110_r1 : BitVec 32 := 16384#32
  let true_72_r1 : BitVec 1 := 1#1
  let c1_i32_71_r1 : BitVec 32 := 1#32
  let v86_r1 : BitVec 32 := Scalar.subi arg13_r1 c1_i32_71_r1
  let v87_r1 : BitVec 32 := Scalar.select true_72_r1 v86_r1 arg13_r1
  let c_m1_i32_73_r1 : BitVec 32 := 4294967295#32
  let v88_r1 : BitVec 1 := Scalar.cmpi .eq v87_r1 c_m1_i32_73_r1
  let c7_i32_74_r1 : BitVec 32 := 7#32
  let v89_r1 : BitVec 32 := Scalar.select v88_r1 c7_i32_74_r1 v87_r1
  let c0_i32_75_r1 : BitVec 32 := 0#32
  let v90_r1 : BitVec 32 := Scalar.addi v89_r1 c0_i32_75_r1
  let v153_r1 : BitVec 32 := Scalar.muli c16384_i32_110_r1 v90_r1
  let c0_i32_111_r1 : BitVec 32 := 0#32
  ![v153_r1.toNat, 0]
def k0_off22 (arg12_r1 : BitVec 32) : Fin 3 → Nat :=
  let c2_i32_109_r1 : BitVec 32 := 2#32
  let v152_r1 : BitVec 32 := Scalar.remui arg12_r1 c2_i32_109_r1
  let c0_i32_112_r1 : BitVec 32 := 0#32
  let c0_i32_113_r1 : BitVec 32 := 0#32
  ![v152_r1.toNat, 0, 0]

def k0_chk3 (k0_t3 : Fin k0_t3_loop.trips) (arg11_r1 : BitVec 32) (arg12_r1 : BitVec 32) (arg13_r1 : BitVec 32) : Prop :=
  (∀ a, (k0_off14 arg13_r1) a + S1x1x16384.size a ≤ S8x1x16384.size a) ∧
  (∀ a, (k0_off15 arg13_r1) a + S16384x128.size a ≤ S131072x128.size a) ∧
  (∀ (k0_h6 : k0_cond6 k0_t3 arg13_r1 = 1#1), ∀ a, (k0_off17 arg11_r1) a + S1.size a ≤ S2.size a) ∧
  (∀ (k0_h6 : k0_cond6 k0_t3 arg13_r1 = 1#1), ∀ a, (k0_off18 arg13_r1) a + S16384x128.size a ≤ S131072x128.size a) ∧
  (∀ (k0_h6 : k0_cond6 k0_t3 arg13_r1 = 1#1), ∀ a, (k0_off19 arg11_r1) a + S1x16384x128.size a ≤ S2x16384x128.size a) ∧
  (∀ (k0_h7 : k0_cond7 k0_t3 arg13_r1 = 1#1), ∀ a, (k0_off20 arg12_r1) a + S1.size a ≤ S2.size a) ∧
  (∀ (k0_h7 : k0_cond7 k0_t3 arg13_r1 = 1#1), ∀ a, (k0_off21 arg13_r1) a + S16384x128.size a ≤ S131072x128.size a) ∧
  (∀ (k0_h7 : k0_cond7 k0_t3 arg13_r1 = 1#1), ∀ a, (k0_off22 arg12_r1) a + S1x16384x128.size a ≤ S2x16384x128.size a)
theorem k0_off14_inb : ∀ (k0_t3 : Fin k0_t3_loop.trips) (arg11_r1 : BitVec 32) (arg12_r1 : BitVec 32) (arg13_r1 : BitVec 32) (k0_hw3 : k0_chk3 k0_t3 arg11_r1 arg12_r1 arg13_r1), ∀ a, (k0_off14 arg13_r1) a + S1x1x16384.size a ≤ S8x1x16384.size a := fun k0_t3 arg11_r1 arg12_r1 arg13_r1 k0_hw3 => k0_hw3.1
theorem k0_off15_inb : ∀ (k0_t3 : Fin k0_t3_loop.trips) (arg11_r1 : BitVec 32) (arg12_r1 : BitVec 32) (arg13_r1 : BitVec 32) (k0_hw3 : k0_chk3 k0_t3 arg11_r1 arg12_r1 arg13_r1), ∀ a, (k0_off15 arg13_r1) a + S16384x128.size a ≤ S131072x128.size a := fun k0_t3 arg11_r1 arg12_r1 arg13_r1 k0_hw3 => k0_hw3.2.1
theorem k0_off17_inb : ∀ (k0_t3 : Fin k0_t3_loop.trips) (arg11_r1 : BitVec 32) (arg12_r1 : BitVec 32) (arg13_r1 : BitVec 32) (k0_hw3 : k0_chk3 k0_t3 arg11_r1 arg12_r1 arg13_r1), ∀ (k0_h6 : k0_cond6 k0_t3 arg13_r1 = 1#1), ∀ a, (k0_off17 arg11_r1) a + S1.size a ≤ S2.size a := fun k0_t3 arg11_r1 arg12_r1 arg13_r1 k0_hw3 k0_h6 => k0_hw3.2.2.1 k0_h6
theorem k0_off18_inb : ∀ (k0_t3 : Fin k0_t3_loop.trips) (arg11_r1 : BitVec 32) (arg12_r1 : BitVec 32) (arg13_r1 : BitVec 32) (k0_hw3 : k0_chk3 k0_t3 arg11_r1 arg12_r1 arg13_r1), ∀ (k0_h6 : k0_cond6 k0_t3 arg13_r1 = 1#1), ∀ a, (k0_off18 arg13_r1) a + S16384x128.size a ≤ S131072x128.size a := fun k0_t3 arg11_r1 arg12_r1 arg13_r1 k0_hw3 k0_h6 => k0_hw3.2.2.2.1 k0_h6
theorem k0_off19_inb : ∀ (k0_t3 : Fin k0_t3_loop.trips) (arg11_r1 : BitVec 32) (arg12_r1 : BitVec 32) (arg13_r1 : BitVec 32) (k0_hw3 : k0_chk3 k0_t3 arg11_r1 arg12_r1 arg13_r1), ∀ (k0_h6 : k0_cond6 k0_t3 arg13_r1 = 1#1), ∀ a, (k0_off19 arg11_r1) a + S1x16384x128.size a ≤ S2x16384x128.size a := fun k0_t3 arg11_r1 arg12_r1 arg13_r1 k0_hw3 k0_h6 => k0_hw3.2.2.2.2.1 k0_h6
theorem k0_off20_inb : ∀ (k0_t3 : Fin k0_t3_loop.trips) (arg11_r1 : BitVec 32) (arg12_r1 : BitVec 32) (arg13_r1 : BitVec 32) (k0_hw3 : k0_chk3 k0_t3 arg11_r1 arg12_r1 arg13_r1), ∀ (k0_h7 : k0_cond7 k0_t3 arg13_r1 = 1#1), ∀ a, (k0_off20 arg12_r1) a + S1.size a ≤ S2.size a := fun k0_t3 arg11_r1 arg12_r1 arg13_r1 k0_hw3 k0_h7 => k0_hw3.2.2.2.2.2.1 k0_h7
theorem k0_off21_inb : ∀ (k0_t3 : Fin k0_t3_loop.trips) (arg11_r1 : BitVec 32) (arg12_r1 : BitVec 32) (arg13_r1 : BitVec 32) (k0_hw3 : k0_chk3 k0_t3 arg11_r1 arg12_r1 arg13_r1), ∀ (k0_h7 : k0_cond7 k0_t3 arg13_r1 = 1#1), ∀ a, (k0_off21 arg13_r1) a + S16384x128.size a ≤ S131072x128.size a := fun k0_t3 arg11_r1 arg12_r1 arg13_r1 k0_hw3 k0_h7 => k0_hw3.2.2.2.2.2.2.1 k0_h7
theorem k0_off22_inb : ∀ (k0_t3 : Fin k0_t3_loop.trips) (arg11_r1 : BitVec 32) (arg12_r1 : BitVec 32) (arg13_r1 : BitVec 32) (k0_hw3 : k0_chk3 k0_t3 arg11_r1 arg12_r1 arg13_r1), ∀ (k0_h7 : k0_cond7 k0_t3 arg13_r1 = 1#1), ∀ a, (k0_off22 arg12_r1) a + S1x16384x128.size a ≤ S2x16384x128.size a := fun k0_t3 arg11_r1 arg12_r1 arg13_r1 k0_hw3 k0_h7 => k0_hw3.2.2.2.2.2.2.2 k0_h7

def k0_off23 (v55_1_r1 : BitVec 32) : Fin 1 → Nat :=
  let c2_i32_r1 : BitVec 32 := 2#32
  let v76_r1 : BitVec 32 := Scalar.remui v55_1_r1 c2_i32_r1
  ![v76_r1.toNat]

def k0_off24 (v55_2_r1 : BitVec 32) : Fin 2 → Nat :=
  let c16384_i32_r1 : BitVec 32 := 16384#32
  let true_46_r1 : BitVec 1 := 1#1
  let c1_i32_45_r1 : BitVec 32 := 1#32
  let v56_r1 : BitVec 32 := Scalar.subi v55_2_r1 c1_i32_45_r1
  let v57_r1 : BitVec 32 := Scalar.select true_46_r1 v56_r1 v55_2_r1
  let c_m1_i32_47_r1 : BitVec 32 := 4294967295#32
  let v58_r1 : BitVec 1 := Scalar.cmpi .eq v57_r1 c_m1_i32_47_r1
  let c7_i32_48_r1 : BitVec 32 := 7#32
  let v59_r1 : BitVec 32 := Scalar.select v58_r1 c7_i32_48_r1 v57_r1
  let c0_i32_49_r1 : BitVec 32 := 0#32
  let v60_r1 : BitVec 32 := Scalar.addi v59_r1 c0_i32_49_r1
  let v77_r1 : BitVec 32 := Scalar.muli c16384_i32_r1 v60_r1
  let c0_i32_65_r1 : BitVec 32 := 0#32
  ![v77_r1.toNat, 0]

def k0_chk6 (v55_2_r1 : BitVec 32) : Prop :=
  (∀ a, (k0_off24 v55_2_r1) a + S16384x128.size a ≤ S131072x128.size a)
theorem k0_off24_inb : ∀ (v55_2_r1 : BitVec 32) (k0_hw6 : k0_chk6 v55_2_r1), ∀ a, (k0_off24 v55_2_r1) a + S16384x128.size a ≤ S131072x128.size a := fun v55_2_r1 k0_hw6 => k0_hw6

def k0_off25 (v55_1_r1 : BitVec 32) : Fin 3 → Nat :=
  let c2_i32_r1 : BitVec 32 := 2#32
  let v76_r1 : BitVec 32 := Scalar.remui v55_1_r1 c2_i32_r1
  let c0_i32_66_r1 : BitVec 32 := 0#32
  let c0_i32_67_r1 : BitVec 32 := 0#32
  ![v76_r1.toNat, 0, 0]

def k0_chk5 (v55_1_r1 : BitVec 32) : Prop :=
  (∀ a, (k0_off23 v55_1_r1) a + S1.size a ≤ S2.size a) ∧
  (∀ a, (k0_off25 v55_1_r1) a + S1x16384x128.size a ≤ S2x16384x128.size a)
theorem k0_off23_inb : ∀ (v55_1_r1 : BitVec 32) (k0_hw5 : k0_chk5 v55_1_r1), ∀ a, (k0_off23 v55_1_r1) a + S1.size a ≤ S2.size a := fun v55_1_r1 k0_hw5 => k0_hw5.1
theorem k0_off25_inb : ∀ (v55_1_r1 : BitVec 32) (k0_hw5 : k0_chk5 v55_1_r1), ∀ a, (k0_off25 v55_1_r1) a + S1x16384x128.size a ≤ S2x16384x128.size a := fun v55_1_r1 k0_hw5 => k0_hw5.2

abbrev stage0_0 : Fin 1 → Memref sig .tc .vmem S8x1x16384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S131072x128 : Shape := ⟨2, ![131072, 128]⟩
abbrev S131072 : Shape := ⟨1, ![131072]⟩
abbrev S128x128 : Shape := ⟨2, ![128, 128]⟩
abbrev S128 : Shape := ⟨1, ![128]⟩
abbrev S3 : Shape := ⟨1, ![3]⟩
abbrev S_ : Shape := ⟨0, ![]⟩
abbrev S131072x1 : Shape := ⟨2, ![131072, 1]⟩
abbrev S64x1 : Shape := ⟨2, ![64, 1]⟩
abbrev S1x128 : Shape := ⟨2, ![1, 128]⟩
abbrev S64x128 : Shape := ⟨2, ![64, 128]⟩
abbrev S64x130 : Shape := ⟨2, ![64, 130]⟩
abbrev S1 : Shape := ⟨1, ![1]⟩

abbrev nBuf : Space → Nat
  | .hbm => 107
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072, .i32⟩
  | .hbm, ⟨2, _⟩ => ⟨S128x128, .f32⟩
  | .hbm, ⟨3, _⟩ => ⟨S128, .f32⟩
  | .hbm, ⟨4, _⟩ => ⟨S3, .f32⟩
  | .hbm, ⟨5, _⟩ => ⟨S_, .f32⟩
  | .hbm, ⟨6, _⟩ => ⟨S131072x1, .f32⟩
  | .hbm, ⟨7, _⟩ => ⟨S_, .f32⟩
  | .hbm, ⟨8, _⟩ => ⟨S64x1, .f32⟩
  | .hbm, ⟨9, _⟩ => ⟨S131072x1, .i32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S131072x128, .f32⟩
  | .hbm, ⟨15, _⟩ => ⟨S1x128, .f32⟩
  | .hbm, ⟨16, _⟩ => ⟨S131072x128, .f32⟩
  | .hbm, ⟨17, _⟩ => ⟨S131072x128, .f32⟩
  | .hbm, ⟨18, _⟩ => ⟨S_, .f32⟩
  | .hbm, ⟨19, _⟩ => ⟨S64x128, .f32⟩
  | .hbm, ⟨20, _⟩ => ⟨S131072x1, .i32⟩
  | .hbm, ⟨21, _⟩ => ⟨S64x128, .f32⟩
  | .hbm, ⟨22, _⟩ => ⟨S64x128, .f32⟩
  | .hbm, ⟨23, _⟩ => ⟨S64x128, .f32⟩
  | .hbm, ⟨24, _⟩ => ⟨S131072x128, .f32⟩
  | .hbm, ⟨25, _⟩ => ⟨S_, .f32⟩
  | .hbm, ⟨26, _⟩ => ⟨S64x128, .f32⟩
  | .hbm, ⟨27, _⟩ => ⟨S131072x1, .i32⟩
  | .hbm, ⟨28, _⟩ => ⟨S64x128, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S_, .i32⟩
  | .hbm, ⟨34, _⟩ => ⟨S131072, .i32⟩
  | .hbm, ⟨35, _⟩ => ⟨S131072, .i1⟩
  | .hbm, ⟨36, _⟩ => ⟨S_, .i32⟩
  | .hbm, ⟨37, _⟩ => ⟨S131072, .i32⟩
  | .hbm, ⟨38, _⟩ => ⟨S131072, .i32⟩
  | .hbm, ⟨39, _⟩ => ⟨S131072, .i32⟩
  | .hbm, ⟨40, _⟩ => ⟨S131072x1, .i32⟩
  | .hbm, ⟨41, _⟩ => ⟨S131072x128, .f32⟩
  | .hbm, ⟨42, _⟩ => ⟨S131072x128, .f32⟩
  | .hbm, ⟨43, _⟩ => ⟨S_, .i32⟩
  | .hbm, ⟨44, _⟩ => ⟨S131072, .i32⟩
  | .hbm, ⟨45, _⟩ => ⟨S131072, .i1⟩
  | .hbm, ⟨46, _⟩ => ⟨S_, .i32⟩
  | .hbm, ⟨47, _⟩ => ⟨S131072, .i32⟩
  | .hbm, ⟨48, _⟩ => ⟨S131072, .i32⟩
  | .hbm, ⟨49, _⟩ => ⟨S131072, .i32⟩
  | .hbm, ⟨50, _⟩ => ⟨S131072x1, .i32⟩
  | .hbm, ⟨51, _⟩ => ⟨S131072x128, .f32⟩
  | .hbm, ⟨52, _⟩ => ⟨S_, .f32⟩
  | .hbm, ⟨53, _⟩ => ⟨S131072x128, .f32⟩
  | .hbm, ⟨54, _⟩ => ⟨S131072x128, .f32⟩
  | .hbm, ⟨55, _⟩ => ⟨S131072x128, .f32⟩
  | .hbm, ⟨56, _⟩ => ⟨S131072x128, .f32⟩
  | .hbm, ⟨57, _⟩ => ⟨S_, .f32⟩
  | .hbm, ⟨58, _⟩ => ⟨S131072x128, .f32⟩
  | .hbm, ⟨59, _⟩ => ⟨S131072x128, .f32⟩
  | .hbm, ⟨60, _⟩ => ⟨S_, .f32⟩
  | .hbm, ⟨61, _⟩ => ⟨S64x128, .f32⟩
  | .hbm, ⟨62, _⟩ => ⟨S131072x1, .i32⟩
  | .hbm, ⟨63, _⟩ => ⟨S64x128, .f32⟩
  | .hbm, ⟨64, _⟩ => ⟨S64x128, .f32⟩
  | .hbm, ⟨65, _⟩ => ⟨S64x128, .f32⟩
  | .hbm, ⟨66, _⟩ => ⟨S_, .i32⟩
  | .hbm, ⟨67, _⟩ => ⟨S_, .f32⟩
  | .hbm, ⟨68, _⟩ => ⟨S64x130, .f32⟩
  | .hbm, ⟨69, _⟩ => ⟨S_, .f32⟩
  | .hbm, ⟨70, _⟩ => ⟨S64x128, .f32⟩
  | .hbm, ⟨71, _⟩ => ⟨S64x128, .f32⟩
  | .hbm, ⟨72, _⟩ => ⟨S1, .f32⟩
  | .hbm, ⟨73, _⟩ => ⟨S_, .f32⟩
  | .hbm, ⟨74, _⟩ => ⟨S64x128, .f32⟩
  | .hbm, ⟨75, _⟩ => ⟨S64x128, .f32⟩
  | .hbm, ⟨76, _⟩ => ⟨S64x128, .f32⟩
  | .hbm, ⟨77, _⟩ => ⟨S64x128, .f32⟩
  | .hbm, ⟨78, _⟩ => ⟨S1, .f32⟩
  | .hbm, ⟨79, _⟩ => ⟨S_, .f32⟩
  | .hbm, ⟨80, _⟩ => ⟨S64x128, .f32⟩
  | .hbm, ⟨81, _⟩ => ⟨S64x128, .f32⟩
  | .hbm, ⟨82, _⟩ => ⟨S64x128, .f32⟩
  | .hbm, ⟨83, _⟩ => ⟨S64x128, .f32⟩
  | .hbm, ⟨84, _⟩ => ⟨S1, .f32⟩
  | .hbm, ⟨85, _⟩ => ⟨S_, .f32⟩
  | .hbm, ⟨86, _⟩ => ⟨S64x128, .f32⟩
  | .hbm, ⟨87, _⟩ => ⟨S64x128, .f32⟩
  | .hbm, ⟨88, _⟩ => ⟨S64x128, .f32⟩
  | .hbm, ⟨89, _⟩ => ⟨S64x128, .f32⟩
  | .hbm, ⟨90, _⟩ => ⟨S64x128, .f32⟩
  | .hbm, ⟨91, _⟩ => ⟨S_, .f32⟩
  | .hbm, ⟨92, _⟩ => ⟨S64x128, .f32⟩
  | .hbm, ⟨93, _⟩ => ⟨S64x128, .f32⟩
  | .hbm, ⟨94, _⟩ => ⟨S_, .f32⟩
  | .hbm, ⟨95, _⟩ => ⟨S64x128, .f32⟩
  | .hbm, ⟨96, _⟩ => ⟨S64x128, .f32⟩
  | .hbm, ⟨97, _⟩ => ⟨S_, .i32⟩
  | .hbm, ⟨98, _⟩ => ⟨S131072, .i32⟩
  | .hbm, ⟨99, _⟩ => ⟨S131072, .i1⟩
  | .hbm, ⟨100, _⟩ => ⟨S_, .i32⟩
  | .hbm, ⟨101, _⟩ => ⟨S131072, .i32⟩
  | .hbm, ⟨102, _⟩ => ⟨S131072, .i32⟩
  | .hbm, ⟨103, _⟩ => ⟨S131072, .i32⟩
  | .hbm, ⟨104, _⟩ => ⟨S131072x1, .i32⟩
  | .hbm, ⟨105, _⟩ => ⟨S131072x128, .f32⟩
  | .hbm, ⟨106, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call0_cst : Ref sig .tc := ⟨.hbm, 57, rfl⟩
abbrev main_call0_v0 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_call1_v0 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_c_13 : Ref sig .tc := ⟨.hbm, 97, rfl⟩
abbrev main_v74 : Ref sig .tc := ⟨.hbm, 98, rfl⟩
abbrev main_v75 : Ref sig .tc := ⟨.hbm, 99, rfl⟩
abbrev main_c_14 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Proof.Names.lean ====
/-
  Names for the pieces of memory the kernel's two double buffers move: block `b` of the features and of the result,
  slot `s` of the read buffer and of the write buffer, slot `s`'s semaphore of each; the closed form of every offset
  the two loops compute from their carried words, and the carried words themselves as functions of the trip.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.Ring
public import Idealize.ShloMosaic.Lib.Ring.WriteBehind
public import Idealize.ShloMosaic.Lib.Affine
public import Idealize.ShloMosaic.Lib.Tactic

@[expose] public section

set_option maxRecDepth 65536

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev featM : Memref sig .tc .hbm S131072x128 .f32 := Memref.whole main_arg0
abbrev outM : Memref sig .tc .hbm S131072x128 .f32 := Memref.whole main_v34
abbrev rbuf : Memref sig .tc .vmem S2x16384x128 .f32 := Memref.whole cc0_scoped0
abbrev wbuf : Memref sig .tc .vmem S2x16384x128 .f32 := Memref.whole cc0_scoped2

/-! ## Offsets of blocks, slots and cells -/

abbrev blkOff (b : Fin 8) : Fin 2 → Nat := ![16384 * b.val, 0]
abbrev segOff (b : Fin 8) : Fin 3 → Nat := ![b.val, 0, 0]
abbrev slotOff (s : Fin 2) : Fin 3 → Nat := ![s.val, 0, 0]
abbrev cellOff (s : Fin 2) : Fin 1 → Nat := ![s.val]

/-- A block lies in the array. -/
theorem blkOff_inb (b : Fin 8) : ∀ a, blkOff b a + S16384x128.size a ≤ S131072x128.size a := by revert b; decide
/-- A block of segment words lies in its array. -/
theorem segOff_inb (b : Fin 8) : ∀ a, segOff b a + S1x1x16384.size a ≤ S8x1x16384.size a := by revert b; decide
/-- A slot lies in its buffer. -/
theorem slotOff_inb (s : Fin 2) : ∀ a, slotOff s a + S1x16384x128.size a ≤ S2x16384x128.size a := by revert s; decide
/-- A cell lies in its array. -/
theorem cellOff_inb (s : Fin 2) : ∀ a, cellOff s a + S1.size a ≤ S2.size a := by revert s; decide

instance (b : Fin 8) : ClosedOff (blkOff b) := ⟨blkOff b, rfl⟩
instance (b : Fin 8) : ClosedOff (segOff b) := ⟨segOff b, rfl⟩
instance (s : Fin 2) : ClosedOff (slotOff s) := ⟨slotOff s, rfl⟩

abbrev blkRect (b : Fin 8) : Rect S131072x128 := Rect.unit (s := S131072x128) (blkOff b) S16384x128.size (blkOff_inb b)
abbrev segRect (b : Fin 8) : Rect S8x1x16384 := Rect.unit (s := S8x1x16384) (segOff b) S1x1x16384.size (segOff_inb b)
abbrev slotRect (s : Fin 2) : Rect S2x16384x128 := Rect.unit (s := S2x16384x128) (slotOff s) S1x16384x128.size (slotOff_inb s)

/-- Block `b` of the features. -/
def fblk (b : Fin 8) : Memref sig .tc .hbm S16384x128 .f32 := featM.slice (blkRect b) (fun _ => rfl)
/-- Block `b` of the result. -/
def oblk (b : Fin 8) : Memref sig .tc .hbm S16384x128 .f32 := outM.slice (blkRect b) (fun _ => rfl)
/-- Slot `s` of the read buffer. -/
def rslot (s : Fin 2) : Memref sig .tc .vmem S16384x128 .f32 :=
  (rbuf.slice (slotRect s) (fun _ => rfl)).squeeze S16384x128 squeezes_S1x16384x128_S16384x128
/-- Slot `s` of the write buffer. -/
def wslot (s : Fin 2) : Memref sig .tc .vmem S16384x128 .f32 :=
  (wbuf.slice (slotRect s) (fun _ => rfl)).squeeze S16384x128 squeezes_S1x16384x128_S16384x128
/-- The cell of slot `s` of the read buffer. -/
def rcell (s : Fin 2) : DmaSems sig S_ := (cc0_scoped1.slice (Rect.unit (s := S2) (cellOff s) S1.size (cellOff_inb s))).squeeze S_ squeezes_S1_S_
/-- The cell of slot `s` of the write buffer. -/
def wcell (s : Fin 2) : DmaSems sig S_ := (cc0_scoped3.slice (Rect.unit (s := S2) (cellOff s) S1.size (cellOff_inb s))).squeeze S_ squeezes_S1_S_

/-! ## The carried words before trip `k` -/

/-- The read loop's count of blocks asked for. -/
def askW (k : ℕ) : BitVec 32 := BitVec.ofNat 32 (min (k + 1) 8)
/-- A trip's number as a word. -/
def numW (k : ℕ) : BitVec 32 := BitVec.ofNat 32 k
/-- A trip's block, wrapped at the end. -/
def wrapW (k : ℕ) : BitVec 32 := BitVec.ofNat 32 (k % 8)
/-- The write loop's count of blocks waited for. -/
def doneW (k : ℕ) : BitVec 32 := BitVec.ofNat 32 (k - 1)

/-! ## The read loop's offsets -/

theorem off3_eq (k : Fin k0_t1_loop.trips) : k0_off3 (askW k) = cellOff (Ring.sl 2 (k.val + 1)) := by revert k; decide
theorem off4_eq (k : Fin k0_t1_loop.trips) : k0_off4 (askW k) = slotOff (Ring.sl 2 (k.val + 1)) := by revert k; decide
theorem off5_eq (k : Fin k0_t1_loop.trips) (h : k.val + 1 < 8) : k0_off5 (wrapW k) = blkOff (Ring.bk 8 (k.val + 1)) := by revert k; decide
theorem off6_eq (k : Fin k0_t1_loop.trips) : k0_off6 (numW k) = cellOff (Ring.sl 2 k.val) := by revert k; decide
theorem off7_eq (k : Fin k0_t1_loop.trips) : k0_off7 (numW k) = slotOff (Ring.sl 2 k.val) := by revert k; decide
theorem off8_eq (k : Fin k0_t1_loop.trips) : k0_off8 (wrapW k) = blkOff (Ring.bk 8 k.val) := by revert k; decide
theorem off9_eq (k : Fin k0_t1_loop.trips) : k0_off9 (numW k) = slotOff (Ring.sl 2 k.val) := by revert k; decide
theorem off10_eq (k : Fin k0_t1_loop.trips) : k0_off10 (wrapW k) = blkOff (Ring.bk 8 k.val) := by revert k; decide
theorem off11_eq (k : Fin k0_t1_loop.trips) : k0_off11 (wrapW k) = segOff (Ring.bk 8 k.val) := by revert k; decide
/-- Every trip but the last asks for the next block. -/
theorem cond1_yes (k : Fin k0_t1_loop.trips) (h : k.val + 1 < 8) : k0_cond1 k (wrapW k) = 1#1 := by revert k; decide
/-- The last trip asks for nothing. -/
theorem cond1_no (k : Fin k0_t1_loop.trips) (h : ¬ k.val + 1 < 8) : ¬ k0_cond1 k (wrapW k) = 1#1 := by revert k; decide
/-- Every trip waits for its block. -/
theorem cond2_yes (k : Fin k0_t1_loop.trips) : k0_cond2 k (wrapW k) = 1#1 := by revert k; decide
/-- The slices of a trip lie in their buffers. -/
theorem chk2_ok (k : Fin k0_t1_loop.trips) : k0_chk2 (numW k) := by revert k; decide

/-! ## The two middle loops' offsets -/

theorem off12_eq (k : Fin k0_t2_loop.trips) : k0_off12 k = segOff (Ring.bk 8 k.val) := by revert k; decide
theorem off13_eq (k : Fin k0_t2_loop.trips) : k0_off13 k = blkOff (Ring.bk 8 k.val) := by revert k; decide

/-! ## The write loop's offsets -/

theorem off14_eq (k : Fin k0_t3_loop.trips) : k0_off14 (wrapW k) = segOff (Ring.bk 8 k.val) := by revert k; decide
theorem off15_eq (k : Fin k0_t3_loop.trips) : k0_off15 (wrapW k) = blkOff (Ring.bk 8 k.val) := by revert k; decide
theorem off16_eq (k : Fin k0_t3_loop.trips) : k0_off16 (numW k) = slotOff (Ring.sl 2 k.val) := by revert k; decide
theorem off17_eq (k : Fin k0_t3_loop.trips) : k0_off17 (numW k) = cellOff (Ring.sl 2 k.val) := by revert k; decide
theorem off18_eq (k : Fin k0_t3_loop.trips) : k0_off18 (wrapW k) = blkOff (Ring.bk 8 k.val) := by revert k; decide
theorem off19_eq (k : Fin k0_t3_loop.trips) : k0_off19 (numW k) = slotOff (Ring.sl 2 k.val) := by revert k; decide
theorem off20_eq (k : Fin k0_t3_loop.trips) (h : 0 < k.val) : k0_off20 (doneW k) = cellOff (Ring.sl 2 (k.val - 1)) := by revert k; decide
theorem off21_eq (k : Fin k0_t3_loop.trips) (h : 0 < k.val) : k0_off21 (wrapW k) = blkOff (Ring.bk 8 (k.val - 1)) := by revert k; decide
theorem off22_eq (k : Fin k0_t3_loop.trips) (h : 0 < k.val) : k0_off22 (doneW k) = slotOff (Ring.sl 2 (k.val - 1)) := by revert k; decide
/-- Every trip sends its block. -/
theorem cond6_yes (k : Fin k0_t3_loop.trips) : k0_cond6 k (wrapW k) = 1#1 := by revert k; decide
/-- Every trip but the first waits for the block before. -/
theorem cond7_yes (k : Fin k0_t3_loop.trips) (h : 0 < k.val) : k0_cond7 k (wrapW k) = 1#1 := by revert k; decide
/-- The first trip waits for nothing. -/
theorem cond7_no (k : Fin k0_t3_loop.trips) (h : ¬ 0 < k.val) : ¬ k0_cond7 k (wrapW k) = 1#1 := by revert k; decide
theorem chk4_ok (k : Fin k0_t3_loop.trips) : k0_chk4 (numW k) := by revert k; decide
theorem chk1_ok (k : Fin k0_t1_loop.trips) : k0_chk1 k (askW k) (numW k) (wrapW k) := by revert k; decide
theorem chk3_ok (k : Fin k0_t3_loop.trips) : k0_chk3 k (numW k) (doneW k) (wrapW k) := by revert k; decide
theorem chk6_ok : k0_chk6 (wrapW 8) := by decide
theorem chk5_ok : k0_chk5 (doneW 8) := by decide
theorem off23_eq : k0_off23 (doneW 8) = cellOff 1 := by decide
theorem off24_eq : k0_off24 (wrapW 8) = blkOff 7 := by decide
theorem off25_eq : k0_off25 (doneW 8) = slotOff 1 := by decide
theorem off1_eq : k0_off1 = cellOff 0 := by decide
theorem off2_eq : k0_off2 = slotOff 0 := by decide

/-! ## The slices the program computes are the named pieces -/

section Canon
variable {s : Fin 2} {b : Fin 8}

/-- A cell of the read buffer, at any spelling of its offset. -/
theorem rcell_of {off : Fin 1 → Nat} (e : off = cellOff s) (hh) :
    (cc0_scoped1.slice (Rect.unit (s := S2) off S1.size hh)).squeeze S_ squeezes_S1_S_ = rcell s :=
  congrArg (fun A : DmaSems sig S1 => A.squeeze S_ squeezes_S1_S_) (SemArray.slice_unit_congr _ e _ _)
/-- A cell of the write buffer, likewise. -/
theorem wcell_of {off : Fin 1 → Nat} (e : off = cellOff s) (hh) :
    (cc0_scoped3.slice (Rect.unit (s := S2) off S1.size hh)).squeeze S_ squeezes_S1_S_ = wcell s :=
  congrArg (fun A : DmaSems sig S1 => A.squeeze S_ squeezes_S1_S_) (SemArray.slice_unit_congr _ e _ _)
/-- A slot of the read buffer, likewise. -/
theorem rslot_of {off : Fin 3 → Nat} (e : off = slotOff s) (hh hs) :
    (rbuf.slice (Rect.unit (s := S2x16384x128) off S1x16384x128.size hh) hs).squeeze S16384x128 squeezes_S1x16384x128_S16384x128 = rslot s :=
  congrArg (fun M : Memref sig .tc .vmem S1x16384x128 .f32 => M.squeeze S16384x128 squeezes_S1x16384x128_S16384x128) (Memref.slice_unit_congr _ e _ _ _ _)
/-- A slot of the write buffer, likewise. -/
theorem wslot_of {off : Fin 3 → Nat} (e : off = slotOff s) (hh hs) :
    (wbuf.slice (Rect.unit (s := S2x16384x128) off S1x16384x128.size hh) hs).squeeze S16384x128 squeezes_S1x16384x128_S16384x128 = wslot s :=
  congrArg (fun M : Memref sig .tc .vmem S1x16384x128 .f32 => M.squeeze S16384x128 squeezes_S1x16384x128_S16384x128) (Memref.slice_unit_congr _ e _ _ _ _)
/-- A block of the features, likewise. -/
theorem fblk_of {off : Fin 2 → Nat} (e : off = blkOff b) (hh hs) :
    featM.slice (Rect.unit (s := S131072x128) off S16384x128.size hh) hs = fblk b := Memref.slice_unit_congr _ e _ _ _ (fun _ => rfl)
/-- A block of the result, likewise. -/
theorem oblk_of {off : Fin 2 → Nat} (e : off = blkOff b) (hh hs) :
    outM.slice (Rect.unit (s := S131072x128) off S16384x128.size hh) hs = oblk b := Memref.slice_unit_congr _ e _ _ _ (fun _ => rfl)

end Canon

@[sl_canon] theorem rcell_first (hh) : (cc0_scoped1.slice (Rect.unit (s := S2) k0_off1 S1.size hh)).squeeze S_ squeezes_S1_S_ = rcell 0 := rcell_of off1_eq _
@[sl_canon] theorem rslot_first (hh hs) : (rbuf.slice (Rect.unit (s := S2x16384x128) k0_off2 S1x16384x128.size hh) hs).squeeze S16384x128 squeezes_S1x16384x128_S16384x128 = rslot 0 := rslot_of off2_eq _ _
@[sl_canon] theorem fblk_first (hh hs) : featM.slice (Rect.unit (s := S131072x128) ![0, 0] S16384x128.size hh) hs = fblk 0 := fblk_of (by decide) _ _

section Canon
variable (k : Fin k0_t1_loop.trips)
@[sl_canon] theorem rcell_ask (hh) : (cc0_scoped1.slice (Rect.unit (s := S2) (k0_off3 (askW k)) S1.size hh)).squeeze S_ squeezes_S1_S_ = rcell (Ring.sl 2 (k.val + 1)) := rcell_of (off3_eq k) _
@[sl_canon] theorem rslot_ask (hh hs) : (rbuf.slice (Rect.unit (s := S2x16384x128) (k0_off4 (askW k)) S1x16384x128.size hh) hs).squeeze S16384x128 squeezes_S1x16384x128_S16384x128 = rslot (Ring.sl 2 (k.val + 1)) := rslot_of (off4_eq k) _ _
@[sl_canon] theorem fblk_ask (h : k.val + 1 < 8) (hh hs) : featM.slice (Rect.unit (s := S131072x128) (k0_off5 (wrapW k)) S16384x128.size hh) hs = fblk (Ring.bk 8 (k.val + 1)) := fblk_of (off5_eq k h) _ _
@[sl_canon] theorem rcell_get (hh) : (cc0_scoped1.slice (Rect.unit (s := S2) (k0_off6 (numW k)) S1.size hh)).squeeze S_ squeezes_S1_S_ = rcell (Ring.sl 2 k.val) := rcell_of (off6_eq k) _
@[sl_canon] theorem rslot_get (hh hs) : (rbuf.slice (Rect.unit (s := S2x16384x128) (k0_off7 (numW k)) S1x16384x128.size hh) hs).squeeze S16384x128 squeezes_S1x16384x128_S16384x128 = rslot (Ring.sl 2 k.val) := rslot_of (off7_eq k) _ _
@[sl_canon] theorem fblk_get (hh hs) : featM.slice (Rect.unit (s := S131072x128) (k0_off8 (wrapW k)) S16384x128.size hh) hs = fblk (Ring.bk 8 k.val) := fblk_of (off8_eq k) _ _
end Canon

section Canon
variable (k : Fin k0_t3_loop.trips)
@[sl_canon] theorem wcell_put (hh) : (cc0_scoped3.slice (Rect.unit (s := S2) (k0_off17 (numW k)) S1.size hh)).squeeze S_ squeezes_S1_S_ = wcell (Ring.sl 2 k.val) := wcell_of (off17_eq k) _
@[sl_canon] theorem oblk_put (hh hs) : outM.slice (Rect.unit (s := S131072x128) (k0_off18 (wrapW k)) S16384x128.size hh) hs = oblk (Ring.bk 8 k.val) := oblk_of (off18_eq k) _ _
@[sl_canon] theorem wslot_put (hh hs) : (wbuf.slice (Rect.unit (s := S2x16384x128) (k0_off19 (numW k)) S1x16384x128.size hh) hs).squeeze S16384x128 squeezes_S1x16384x128_S16384x128 = wslot (Ring.sl 2 k.val) := wslot_of (off19_eq k) _ _
@[sl_canon] theorem wcell_back (h : 0 < k.val) (hh) : (cc0_scoped3.slice (Rect.unit (s := S2) (k0_off20 (doneW k)) S1.size hh)).squeeze S_ squeezes_S1_S_ = wcell (Ring.sl 2 (k.val - 1)) := wcell_of (off20_eq k h) _
@[sl_canon] theorem oblk_back (h : 0 < k.val) (hh hs) : outM.slice (Rect.unit (s := S131072x128) (k0_off21 (wrapW k)) S16384x128.size hh) hs = oblk (Ring.bk 8 (k.val - 1)) := oblk_of (off21_eq k h) _ _
@[sl_canon] theorem wslot_back (h : 0 < k.val) (hh hs) : (wbuf.slice (Rect.unit (s := S2x16384x128) (k0_off22 (doneW k)) S1x16384x128.size hh) hs).squeeze S16384x128 squeezes_S1x16384x128_S16384x128 = wslot (Ring.sl 2 (k.val - 1)) := wslot_of (off22_eq k h) _ _
@[sl_canon] theorem wcell_last (hh) : (cc0_scoped3.slice (Rect.unit (s := S2) (k0_off23 (doneW 8)) S1.size hh)).squeeze S_ squeezes_S1_S_ = wcell 1 := wcell_of off23_eq _
@[sl_canon] theorem oblk_last (hh hs) : outM.slice (Rect.unit (s := S131072x128) (k0_off24 (wrapW 8)) S16384x128.size hh) hs = oblk 7 := oblk_of off24_eq _ _
@[sl_canon] theorem wslot_last (hh hs) : (wbuf.slice (Rect.unit (s := S2x16384x128) (k0_off25 (doneW 8)) S1x16384x128.size hh) hs).squeeze S16384x128 squeezes_S1x16384x128_S16384x128 = wslot 1 := wslot_of off25_eq _ _
end Canon

instance (k : Fin k0_t1_loop.trips) : ClosedOff (k0_off9 (numW k)) := ⟨slotOff (Ring.sl 2 k.val), off9_eq k⟩
instance (k : Fin k0_t1_loop.trips) : ClosedOff (k0_off10 (wrapW k)) := ⟨blkOff (Ring.bk 8 k.val), off10_eq k⟩
instance (k : Fin k0_t1_loop.trips) : ClosedOff (k0_off11 (wrapW k)) := ⟨segOff (Ring.bk 8 k.val), off11_eq k⟩
instance (k : Fin k0_t3_loop.trips) : ClosedOff (k0_off14 (wrapW k)) := ⟨segOff (Ring.bk 8 k.val), off14_eq k⟩
instance (k : Fin k0_t3_loop.trips) : ClosedOff (k0_off15 (wrapW k)) := ⟨blkOff (Ring.bk 8 k.val), off15_eq k⟩
instance (k : Fin k0_t3_loop.trips) : ClosedOff (k0_off16 (numW k)) := ⟨slotOff (Ring.sl 2 k.val), off16_eq k⟩
instance (k : Fin k0_t3_loop.trips) : ClosedOff (k0_off19 (numW k)) := ⟨slotOff (Ring.sl 2 k.val), off19_eq k⟩

end Cert.KernelIdeal.Hand
-- ==== Proof.ReadLoop.lean ====
/-
  The read loop: its state before trip `k`, one trip, and the loop's invariant.
-/
module

public import proofs.«01_k».proof.Proof.Names
public import Idealize.ShloMosaic.Lib.Ring.Trips
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

/-- The user algebra: the pipeline library's, beside the counters the kernel's own transfers use. -/
abbrev UU (nD : Nat) (τ : Topo) : Type := UR sig nD τ × Counters
local notation "𝕄" => MT nD τ sig Unit (Elt F) ℕ (UU nD τ) ℕ
abbrev 𝒱₀ : Variants := Variants.none

abbrev xsM : Memref sig .tc .vmem S131072x128 .bf16 := Memref.whole cc0_scratch0
abbrev ssM : Memref sig .tc .vmem S64x256 .f32 := Memref.whole cc0_scratch1
abbrev cntM : Memref sig .tc .vmem S64x128 .f32 := Memref.whole cc0_scratch2
abbrev s2M : Memref sig .tc .vmem S64x128 .f32 := Memref.whole cc0_scratch3

abbrev ssRect : Rect S64x256 := Rect.unit (s := S64x256) ![0, 0] S64x256.size inb_S64x256_S64x256_0_0
abbrev cntRect : Rect S64x128 := Rect.unit (s := S64x128) ![0, 0] S64x128.size inb_S64x128_S64x128_0_0

/-- The four scratch buffers and a window's staging buffer, each held whole at given contents. -/
abbrev xsP (c : Dev nD) (f : Buf (Elt F) (xsM.view.loc (c : Thread nD τ))) : sProp 𝕄 := xsM.view.loc (c : Thread nD τ) ↦[xsM.view.set]{fullShare} f
abbrev ssP (c : Dev nD) (f : Buf (Elt F) (ssM.view.loc (c : Thread nD τ))) : sProp 𝕄 := ssM.view.loc (c : Thread nD τ) ↦[ssM.view.set]{fullShare} f
abbrev cntP (c : Dev nD) (f : Buf (Elt F) (cntM.view.loc (c : Thread nD τ))) : sProp 𝕄 := cntM.view.loc (c : Thread nD τ) ↦[cntM.view.set]{fullShare} f
abbrev s2P (c : Dev nD) (f : Buf (Elt F) (s2M.view.loc (c : Thread nD τ))) : sProp 𝕄 := s2M.view.loc (c : Thread nD τ) ↦[s2M.view.set]{fullShare} f
abbrev segP (c : Dev nD) (M : Memref sig .tc .vmem S8x1x16384 .i32) (f : Buf (Elt F) (M.view.loc (c : Thread nD τ))) : sProp 𝕄 := M.view.loc (c : Thread nD τ) ↦[M.view.set]{fullShare} f

section Pieces
variable (c : Dev nD) (XA : Buf (Elt F) (featM.view.loc (c : Thread nD τ)))

/-- Slot `s`'s cell at rest. -/
abbrev rcellP (s : Fin 2) : sProp 𝕄 := semVal ((c : Thread nD τ), SemLoc.dma (rcell s).sem) 0
/-- Slot `s` at contents `f`. -/
abbrev rslotP (s : Fin 2) (f : Buf (Elt F) ((rslot s).view.loc (c : Thread nD τ))) : sProp 𝕄 :=
  (rslot s).view.loc (c : Thread nD τ) ↦[(rslot s).view.set]{fullShare} f
/-- Block `b` of the features, held where it lies. -/
abbrev homeP (b : Fin 8) : sProp 𝕄 := (fblk b).view.loc (c : Thread nD τ) ↦[(fblk b).view.set]{fullShare} XA
/-- Block `b`'s words, as a transfer carries them. -/
abbrev cargo (b : Fin 8) : S16384x128.Idx → Elt F .f32 := ReadAs.same.apply ((fblk b).view.read (Elt F) XA)
/-- Slot `s` with block `b` landed in it, over `f`. -/
abbrev landed (s : Fin 2) (b : Fin 8) (f : Buf (Elt F) ((rslot s).view.loc (c : Thread nD τ))) : Buf (Elt F) ((rslot s).view.loc (c : Thread nD τ)) :=
  (rslot s).view.writes (Elt F) f [⟨Rect.whole S16384x128, cargo c XA b⟩]
/-- What a block's transfer counts on its cell. -/
abbrev amount : ℕ := 262144
/-- Block `b` on its way into slot `s`, sent over contents `f`. -/
abbrev rflightP (s : Fin 2) (b : Fin 8) (f : Buf (Elt F) ((rslot s).view.loc (c : Thread nD τ))) : sProp 𝕄 :=
  Transfers.Flight countersEmb (c : Thread nD τ) (SemLoc.dma (rcell s).sem) () amount iprop(rslotP c s (landed c XA s b f) ∗ homeP c XA b)

end Pieces

section Trip
variable (c : Dev nD) (XA : Buf (Elt F) (featM.view.loc (c : Thread nD τ)))
  (arg1 : Memref sig .tc .vmem S8x1x16384 .i32) (harg1 : arg1.IsWhole)
  (arg2 : Memref sig .tc .vmem S128x128 .f32) (harg2 : arg2.IsWhole)
  (arg3 : Memref sig .tc .vmem S1x128 .f32) (harg3 : arg3.IsWhole)
  (arg4 : Memref sig .tc .vmem S128x128 .f32) (harg4 : arg4.IsWhole)
  (g1 : Buf (Elt F) (arg1.view.loc (c : Thread nD τ)))
  (v13 : FVec F S128x128 .bf16) (v16 : FVec F S1x128 .bf16)

/-- One trip's program. -/
abbrev trip1 (v50 : BitVec 32) (v51 : BitVec 1) (c0 : BitVec 32) (k : Fin k0_t1_loop.trips) : Prog (TpuEff nD τ sig (Elt F) Λ₀ .tc) (BitVec 32 × BitVec 32 × BitVec 32) :=
  k0_t1_body (F := F) featM (Memref.isWhole_whole _) arg1 harg1 arg2 harg2 arg3 harg3 arg4 harg4 outM (Memref.isWhole_whole _)
    xsM (Memref.isWhole_whole _) ssM (Memref.isWhole_whole _) cntM (Memref.isWhole_whole _) s2M (Memref.isWhole_whole _)
    rbuf (Memref.isWhole_whole _) cc0_scoped1 wbuf (Memref.isWhole_whole _) cc0_scoped3 v13 v16 v50 v51 c0 k (askW k, numW k, wrapW k)

/-! ## What the loop leaves, as functions of the trip -/

/-- Block `b`'s words as the kernel loads them from a slot. -/
def fval (b : Fin 8) : S1x16384x128.Idx → Elt F .f32 := fun i => cargo c XA b (Shape.reshapeEquiv squeezes_S1x16384x128_S16384x128.numel_eq.symm i)
/-- Block `b`'s segment words. -/
def segv (b : Fin 8) : S1x1x16384.Idx → Elt F .i32 := arg1.view.readAt (Elt F) (segRect b).toLoadRect g1

/-- The projected rows after `k` trips. -/
def xsAt (x6 : Buf (Elt F) (xsM.view.loc (c : Thread nD τ))) : ℕ → Buf (Elt F) (xsM.view.loc (c : Thread nD τ))
  | 0 => x6
  | k + 1 => xsM.view.writes (Elt F) (xsAt x6 k) [⟨blkRect (Ring.bk 8 k), k0_pay2 v13 v16 (fval c XA (Ring.bk 8 k))⟩]
/-- The sums and sums of squares after `k` trips. -/
def ssAt (x7 : Buf (Elt F) (ssM.view.loc (c : Thread nD τ))) : ℕ → Buf (Elt F) (ssM.view.loc (c : Thread nD τ))
  | 0 => x7
  | k + 1 => ssM.view.writes (Elt F) (ssAt x7 k)
      [⟨ssRect, k0_pay4 v13 v16 (fval c XA (Ring.bk 8 k)) (segv c arg1 g1 (Ring.bk 8 k)) (ssM.view.readAt (Elt F) ssRect.toLoadRect (ssAt x7 k))⟩]
/-- The counts after `k` trips. -/
def cntAt (x8 : Buf (Elt F) (cntM.view.loc (c : Thread nD τ))) : ℕ → Buf (Elt F) (cntM.view.loc (c : Thread nD τ))
  | 0 => x8
  | k + 1 => cntM.view.writes (Elt F) (cntAt x8 k)
      [⟨cntRect, k0_pay11 (cntM.view.readAt (Elt F) cntRect.toLoadRect (cntAt x8 k)) (k0_pay5 (segv c arg1 g1 (Ring.bk 8 k)))⟩]

/-- A slot with a block landed in it is loaded as that block, at any spelling of the slot's offset. -/
theorem rslot_load {off : Fin 3 → Nat} {s : Fin 2} (e : off = slotOff s) (hh) (f : Buf (Elt F) ((rslot s).view.loc (c : Thread nD τ))) (b : Fin 8) :
    rbuf.view.readAt (Elt F) (Rect.unit (s := S2x16384x128) off S1x16384x128.size hh).toLoadRect (landed c XA s b f) = fval c XA b := by
  subst e
  have h := View.read_writes_whole (rslot s).view f (cargo c XA b)
  funext i
  have h2 := congrFun h (Shape.reshapeEquiv squeezes_S1x16384x128_S16384x128.numel_eq.symm i)
  refine Eq.trans ?_ h2
  show _ = rbuf.view.read (Elt F) (landed c XA s b f) ((slotRect s).emb (Shape.reshapeEquiv _ (Shape.reshapeEquiv _ i)))
  rw [Shape.reshapeEquiv_reshapeEquiv, Shape.reshapeEquiv_self]
  rfl

/-- A block stored at any spelling of its offset is that block's piece. -/
theorem piece_blk {off : Fin 2 → Nat} {b : Fin 8} (e : off = blkOff b) (h) (w : S16384x128.Idx → Elt F .bf16) :
    (⟨blkRect b, w⟩ : View.Piece (Elt F) S131072x128 .bf16) = ⟨Rect.unit (s := S131072x128) off S16384x128.size h, w⟩ := by
  subst e; rfl

/-- The read buffer's slot that carries block `k`, before trip `k`: on its way while the block exists, at rest after. -/
def rrole (k : ℕ) : sProp 𝕄 :=
  Ring.roleAt (NB := 8) iprop((∃ f, rslotP c (Ring.sl 2 k) f) ∗ rcellP c (Ring.sl 2 k)) (fun b => iprop(∃ f, rflightP c XA (Ring.sl 2 k) b f)) k

/-- What the loop holds before trip `k`. -/
def inv1 (x6 : Buf (Elt F) (xsM.view.loc (c : Thread nD τ))) (x7 : Buf (Elt F) (ssM.view.loc (c : Thread nD τ))) (x8 : Buf (Elt F) (cntM.view.loc (c : Thread nD τ)))
    (k : ℕ) (acc : BitVec 32 × BitVec 32 × BitVec 32) : sProp 𝕄 :=
  iprop(⌜acc = (askW k, numW k, wrapW k)⌝ ∗ segP c arg1 g1 ∗ xsP c (xsAt c XA v13 v16 x6 k) ∗ ssP c (ssAt c XA arg1 g1 v13 v16 x7 k) ∗ cntP c (cntAt c arg1 g1 x8 k)
    ∗ (∃ W, owes (c : Thread nD τ) 0 W) ∗ bigSep (Ring.homeSet (NB := 8) 1 k) (homeP c XA)
    ∗ rrole c XA k ∗ (∃ f, rslotP c (Ring.sl 2 (k + 1)) f) ∗ rcellP c (Ring.sl 2 (k + 1)))

/-- Before a trip but the last, the block it sends for is among those at home; -/
theorem home_out (k : ℕ) (h : k + 1 < 8) :
    bigSep (Ring.homeSet (NB := 8) 1 k) (homeP c XA)
      = iprop(homeP c XA (Ring.bk 8 (k + 1)) ∗ bigSep ((Ring.homeSet (NB := 8) 1 k).erase (Ring.bk 8 (k + 1))) (homeP c XA)) := by
  conv_lhs => rw [Ring.homeSet_out 1 k h, bigSep_insert (Ring.bkL_not_mem_erase 1 k)]
  rfl
/-- after it, the block it used is back. -/
theorem home_back (k : ℕ) (h : k + 1 < 8) :
    bigSep (Ring.homeSet (NB := 8) 1 (k + 1)) (homeP c XA)
      = iprop(homeP c XA (Ring.bk 8 k) ∗ bigSep ((Ring.homeSet (NB := 8) 1 k).erase (Ring.bk 8 (k + 1))) (homeP c XA)) := by
  conv_lhs => rw [Ring.homeSet_succ 1 k h, bigSep_insert (Ring.bk_not_mem_erase 1 k (by omega) (by decide))]
  rfl

/-- A trip but the last: it sends for the next block, waits for its own and uses it. -/
theorem trip1_mid (v50 : BitVec 32) (v51 : BitVec 1) (c0 : BitVec 32) (k : Fin k0_t1_loop.trips) (h : k.val + 1 < 8)
    (x6 : Buf (Elt F) (xsM.view.loc (c : Thread nD τ))) (x7 : Buf (Elt F) (ssM.view.loc (c : Thread nD τ))) (x8 : Buf (Elt F) (cntM.view.loc (c : Thread nD τ))) :
    inv1 c XA arg1 g1 v13 v16 x6 x7 x8 k.val (askW k, numW k, wrapW k)
      ⊢ wp frame (wpE (defs₀ (F := F)) 𝒱₀ (c : Thread nD τ) none) Set.univ (trip1 arg1 harg1 arg2 harg2 arg3 harg3 arg4 harg4 v13 v16 v50 v51 c0 k)
          (fun acc => inv1 c XA arg1 g1 v13 v16 x6 x7 x8 (k.val + 1) acc) := by
  have hc2 : k0_chk2 (numW k) := chk2_ok k
  have hc1 : k0_chk1 k (askW k) (numW k) (wrapW k) := chk1_ok k
  have hi := cond1_yes k h
  have hi2 := cond2_yes k
  have hk : k.val < 8 := by omega
  have e0 : Ring.sl 2 (k.val + 1 + 1) = Ring.sl 2 k.val := Ring.sl_add 2 k.val
  unfold inv1 rrole
  rw [Ring.roleAt_of_lt _ _ k.val hk, Ring.roleAt_of_lt _ _ (k.val + 1) h, home_out c XA k.val h, home_back c XA k.val h, e0]
  iintro ⟨-, H1, H6, H7, H8, ⟨%W, HW⟩, ⟨Hb, HH⟩, ⟨%f0, HF⟩, ⟨%f1, HS⟩, HC⟩
  dsimp only [trip1]
  sl_unfold [k0_t1_body]
  sl_exec
  sl_step
  isplitr
  · ipureintro
    refine Prod.ext ?_ (Prod.ext ?_ ?_) <;> (clear * - h; revert k; decide)
  isplitl [H1]; · iexact H1
  have eS : trip1_mid.sl.v119_r0 c XA k hc2 = fval c XA (Ring.bk 8 k.val) := rslot_load c XA (off9_eq k) _ _ _
  have eG : trip1_mid.sl.v132_r0 c arg1 g1 k hc1 = segv c arg1 g1 (Ring.bk 8 k.val) := View.readAt_unit_congr _ (off11_eq k) _ _ _
  have e6 : xsAt c XA v13 v16 x6 (k.val + 1) = xsM.view.writes (Elt F) (xsAt c XA v13 v16 x6 k.val)
      [⟨Rect.unit (k0_off10 (wrapW k)) S16384x128.size (k0_off10_inb k _ _ _ hc1), k0_pay2 v13 v16 (trip1_mid.sl.v119_r0 c XA k hc2)⟩] := by
    rw [eS]; exact congrArg (fun p => xsM.view.writes (Elt F) _ [p]) (piece_blk (off10_eq k) _ _)
  have e7 : ssAt c XA arg1 g1 v13 v16 x7 (k.val + 1) = ssM.view.writes (Elt F) (ssAt c XA arg1 g1 v13 v16 x7 k.val)
      [⟨ssRect, k0_pay4 v13 v16 (trip1_mid.sl.v119_r0 c XA k hc2) (trip1_mid.sl.v132_r0 c arg1 g1 k hc1)
        (ssM.view.readAt (Elt F) ssRect.toLoadRect (ssAt c XA arg1 g1 v13 v16 x7 k.val))⟩] := by
    rw [eS, eG]; rfl
  have e8 : cntAt c arg1 g1 x8 (k.val + 1) = cntM.view.writes (Elt F) (cntAt c arg1 g1 x8 k.val)
      [⟨cntRect, k0_pay11 (trip1_mid.sl.r c arg1 g1 k x8) (trip1_mid.sl.r_1 c arg1 g1 k hc1)⟩] := by
    unfold trip1_mid.sl.r_1; rw [eG]; rfl
  isplitl [H6]; · irw [e6]; iexact H6
  isplitl [H7]; · irw [e7]; iexact H7
  isplitl [H8]; · irw [e8]; iexact H8
  isplitl [HW]; · iexists _; iexact HW
  isplitl [HF_src HH]
  · isplitl [HF_src]; · iexact HF_src
    iexact HH
  isplitl [HC]; · iexists f1; iexact HC
  isplitl [HF_dst]; · iexists _; iexact HF_dst
  iexact HF

/-- At the last trip every other block is at home, -/
theorem home_last : Ring.homeSet (NB := 8) 1 8 = insert (Ring.bk 8 7) (Ring.homeSet (NB := 8) 1 7) := by decide

/-- The last trip: it only waits for its block and uses it. -/
theorem trip1_end (v50 : BitVec 32) (v51 : BitVec 1) (c0 : BitVec 32) (k : Fin k0_t1_loop.trips) (h : ¬ k.val + 1 < 8)
    (x6 : Buf (Elt F) (xsM.view.loc (c : Thread nD τ))) (x7 : Buf (Elt F) (ssM.view.loc (c : Thread nD τ))) (x8 : Buf (Elt F) (cntM.view.loc (c : Thread nD τ))) :
    inv1 c XA arg1 g1 v13 v16 x6 x7 x8 k.val (askW k, numW k, wrapW k)
      ⊢ wp frame (wpE (defs₀ (F := F)) 𝒱₀ (c : Thread nD τ) none) Set.univ (trip1 arg1 harg1 arg2 harg2 arg3 harg3 arg4 harg4 v13 v16 v50 v51 c0 k)
          (fun acc => inv1 c XA arg1 g1 v13 v16 x6 x7 x8 (k.val + 1) acc) := by
  have hc2 : k0_chk2 (numW k) := chk2_ok k
  have hc1 : k0_chk1 k (askW k) (numW k) (wrapW k) := chk1_ok k
  have hi := cond1_no k h
  have hi2 := cond2_yes k
  have hk : k.val < 8 := k.isLt
  have e0 : Ring.sl 2 (k.val + 1 + 1) = Ring.sl 2 k.val := Ring.sl_add 2 k.val
  have ek : k.val = 7 := by omega
  have eh : bigSep (Ring.homeSet (NB := 8) 1 (k.val + 1)) (homeP c XA)
      = iprop(homeP c XA (Ring.bk 8 k.val) ∗ bigSep (Ring.homeSet (NB := 8) 1 k.val) (homeP c XA)) := by
    rw [ek]; conv_lhs => rw [home_last, bigSep_insert (by decide)]
    rfl
  unfold inv1 rrole
  rw [Ring.roleAt_of_lt _ _ k.val hk, Ring.roleAt_of_le _ _ (k.val + 1) (by omega), eh, e0]
  iintro ⟨-, H1, H6, H7, H8, ⟨%W, HW⟩, HH, ⟨%f0, HF⟩, ⟨%f1, HS⟩, HC⟩
  dsimp only [trip1]
  sl_unfold [k0_t1_body]
  sl_exec
  sl_step
  isplitr
  · ipureintro
    refine Prod.ext ?_ (Prod.ext ?_ ?_) <;> (clear * - h; revert k; decide)
  isplitl [H1]; · iexact H1
  have eS : trip1_end.sl.v119_r0 c XA k hc2 = fval c XA (Ring.bk 8 k.val) := rslot_load c XA (off9_eq k) _ _ _
  have eG : trip1_end.sl.v132_r0 c arg1 g1 k hc1 = segv c arg1 g1 (Ring.bk 8 k.val) := View.readAt_unit_congr _ (off11_eq k) _ _ _
  have e6 : xsAt c XA v13 v16 x6 (k.val + 1) = xsM.view.writes (Elt F) (xsAt c XA v13 v16 x6 k.val)
      [⟨Rect.unit (k0_off10 (wrapW k)) S16384x128.size (k0_off10_inb k _ _ _ hc1), k0_pay2 v13 v16 (trip1_end.sl.v119_r0 c XA k hc2)⟩] := by
    rw [eS]; exact congrArg (fun p => xsM.view.writes (Elt F) _ [p]) (piece_blk (off10_eq k) _ _)
  have e7 : ssAt c XA arg1 g1 v13 v16 x7 (k.val + 1) = ssM.view.writes (Elt F) (ssAt c XA arg1 g1 v13 v16 x7 k.val)
      [⟨ssRect, k0_pay4 v13 v16 (trip1_end.sl.v119_r0 c XA k hc2) (trip1_end.sl.v132_r0 c arg1 g1 k hc1)
        (ssM.view.readAt (Elt F) ssRect.toLoadRect (ssAt c XA arg1 g1 v13 v16 x7 k.val))⟩] := by
    rw [eS, eG]; rfl
  have e8 : cntAt c arg1 g1 x8 (k.val + 1) = cntM.view.writes (Elt F) (cntAt c arg1 g1 x8 k.val)
      [⟨cntRect, k0_pay11 (trip1_end.sl.r c arg1 g1 k x8) (trip1_end.sl.r_1 c arg1 g1 k hc1)⟩] := by
    unfold trip1_end.sl.r_1; rw [eG]; rfl
  isplitl [H6]; · irw [e6]; iexact H6
  isplitl [H7]; · irw [e7]; iexact H7
  isplitl [H8]; · irw [e8]; iexact H8
  isplitl [HW]; · iexists _; iexact HW
  isplitl [HF_src HH]
  · isplitl [HF_src]; · iexact HF_src
    iexact HH
  isplitl [HS HC]
  · isplitl [HS]; · iexists f1; iexact HS
    iexact HC
  isplitl [HF_dst]; · iexists _; iexact HF_dst
  iexact HF

/-- One trip, at whatever words the loop carries into it. -/
theorem trip1_run (v50 : BitVec 32) (v51 : BitVec 1) (c0 : BitVec 32) (k : Fin k0_t1_loop.trips)
    (x6 : Buf (Elt F) (xsM.view.loc (c : Thread nD τ))) (x7 : Buf (Elt F) (ssM.view.loc (c : Thread nD τ))) (x8 : Buf (Elt F) (cntM.view.loc (c : Thread nD τ)))
    (acc : BitVec 32 × BitVec 32 × BitVec 32) :
    inv1 c XA arg1 g1 v13 v16 x6 x7 x8 k.val acc
      ⊢ wp frame (wpE (defs₀ (F := F)) 𝒱₀ (c : Thread nD τ) none) Set.univ
          (k0_t1_body (F := F) featM (Memref.isWhole_whole _) arg1 harg1 arg2 harg2 arg3 harg3 arg4 harg4 outM (Memref.isWhole_whole _)
            xsM (Memref.isWhole_whole _) ssM (Memref.isWhole_whole _) cntM (Memref.isWhole_whole _) s2M (Memref.isWhole_whole _)
            rbuf (Memref.isWhole_whole _) cc0_scoped1 wbuf (Memref.isWhole_whole _) cc0_scoped3 v13 v16 v50 v51 c0 k acc)
          (fun acc => inv1 c XA arg1 g1 v13 v16 x6 x7 x8 (k.val + 1) acc) := by
  by_cases e : acc = (askW k.val, numW k.val, wrapW k.val)
  · subst e
    by_cases h : k.val + 1 < 8
    · exact trip1_mid c XA arg1 harg1 arg2 harg2 arg3 harg3 arg4 harg4 g1 v13 v16 v50 v51 c0 k h x6 x7 x8
    · exact trip1_end c XA arg1 harg1 arg2 harg2 arg3 harg3 arg4 harg4 g1 v13 v16 v50 v51 c0 k h x6 x7 x8
  · unfold inv1
    iintro ⟨%e', -⟩; exact absurd e' e

/-- Before the first trip: block 0 is on its way, every other is home. -/
theorem inv1_start (x6 : Buf (Elt F) (xsM.view.loc (c : Thread nD τ))) (x7 : Buf (Elt F) (ssM.view.loc (c : Thread nD τ))) (x8 : Buf (Elt F) (cntM.view.loc (c : Thread nD τ)))
    (acc : BitVec 32 × BitVec 32 × BitVec 32) :
    inv1 c XA arg1 g1 v13 v16 x6 x7 x8 0 acc
      = iprop(⌜acc = (askW 0, numW 0, wrapW 0)⌝ ∗ segP c arg1 g1 ∗ xsP c x6 ∗ ssP c x7 ∗ cntP c x8
    ∗ (∃ W, owes (c : Thread nD τ) 0 W) ∗ bigSep (Ring.homeSet (NB := 8) 1 0) (homeP c XA)
    ∗ (∃ f, rflightP c XA 0 0 f) ∗ (∃ f, rslotP c 1 f) ∗ rcellP c 1) := by
  unfold inv1 rrole
  rw [Ring.roleAt_of_lt _ _ 0 (by omega)]
  rfl
/-- Past the last trip: every block is home and both slots are at rest. -/
theorem inv1_done (x6 : Buf (Elt F) (xsM.view.loc (c : Thread nD τ))) (x7 : Buf (Elt F) (ssM.view.loc (c : Thread nD τ))) (x8 : Buf (Elt F) (cntM.view.loc (c : Thread nD τ)))
    (acc : BitVec 32 × BitVec 32 × BitVec 32) :
    inv1 c XA arg1 g1 v13 v16 x6 x7 x8 8 acc
      = iprop(⌜acc = (askW 8, numW 8, wrapW 8)⌝ ∗ segP c arg1 g1 ∗ xsP c (xsAt c XA v13 v16 x6 8) ∗ ssP c (ssAt c XA arg1 g1 v13 v16 x7 8) ∗ cntP c (cntAt c arg1 g1 x8 8)
    ∗ (∃ W, owes (c : Thread nD τ) 0 W) ∗ bigSep Finset.univ (homeP c XA)
    ∗ ((∃ f, rslotP c 0 f) ∗ rcellP c 0) ∗ (∃ f, rslotP c 1 f) ∗ rcellP c 1) := by
  unfold inv1 rrole
  rw [Ring.roleAt_of_le _ _ 8 (by omega), show Ring.homeSet (NB := 8) 1 8 = Finset.univ by decide]
  rfl
end Trip
end Cert.KernelIdeal.Hand
-- ==== Proof.MidLoop.lean ====
/-
  The middle loop, over the rows already projected: its state before trip `k`, one trip, and the loop's invariant.
-/
module

public import proofs.«01_k».proof.Proof.ReadLoop

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

instance (k : Fin k0_t2_loop.trips) : ClosedOff (k0_off12 k) := ⟨segOff (Ring.bk 8 k.val), off12_eq k⟩
instance (k : Fin k0_t2_loop.trips) : ClosedOff (k0_off13 k) := ⟨blkOff (Ring.bk 8 k.val), off13_eq k⟩

section Trip
variable (c : Dev nD)
  (arg1 : Memref sig .tc .vmem S8x1x16384 .i32) (harg1 : arg1.IsWhole)
  (arg2 : Memref sig .tc .vmem S128x128 .f32) (harg2 : arg2.IsWhole)
  (arg3 : Memref sig .tc .vmem S1x128 .f32) (harg3 : arg3.IsWhole)
  (arg4 : Memref sig .tc .vmem S128x128 .f32) (harg4 : arg4.IsWhole)
  (g1 : Buf (Elt F) (arg1.view.loc (c : Thread nD τ)))
  (v17 v20 : Vec F S64x128 .f32)

/-- One trip's program. -/
abbrev trip2 (v76 v78 : BitVec 32) (v67 : BitVec 1) (k : Fin k0_t2_loop.trips) : Prog (TpuEff nD τ sig (Elt F) Λ₀ .tc) Unit :=
  k0_t2_body (F := F) featM (Memref.isWhole_whole _) arg1 harg1 arg2 harg2 arg3 harg3 arg4 harg4 outM (Memref.isWhole_whole _)
    xsM (Memref.isWhole_whole _) ssM (Memref.isWhole_whole _) cntM (Memref.isWhole_whole _) s2M (Memref.isWhole_whole _)
    rbuf (Memref.isWhole_whole _) cc0_scoped1 wbuf (Memref.isWhole_whole _) cc0_scoped3 v76 v78 v67 v17 v20 k ()

/-- Block `b` of the row buffer at contents `f`. -/
def xblk (f : Buf (Elt F) (xsM.view.loc (c : Thread nD τ))) (b : Fin 8) : S16384x128.Idx → Elt F .bf16 := xsM.view.readAt (Elt F) (blkRect b).toLoadRect f

/-- The rows after `k` trips: centred and cut at zero where a trip has passed. -/
def yAt (x6 : Buf (Elt F) (xsM.view.loc (c : Thread nD τ))) : ℕ → Buf (Elt F) (xsM.view.loc (c : Thread nD τ))
  | 0 => x6
  | k + 1 => xsM.view.writes (Elt F) (yAt x6 k)
      [⟨blkRect (Ring.bk 8 k), k0_pay16 v17 v20 (segv c arg1 g1 (Ring.bk 8 k)) (xblk c (yAt x6 k) (Ring.bk 8 k))⟩]
/-- Their sums per segment after `k` trips. -/
def s2At (x6 : Buf (Elt F) (xsM.view.loc (c : Thread nD τ))) (x9 : Buf (Elt F) (s2M.view.loc (c : Thread nD τ))) : ℕ → Buf (Elt F) (s2M.view.loc (c : Thread nD τ))
  | 0 => x9
  | k + 1 => s2M.view.writes (Elt F) (s2At x6 x9 k)
      [⟨cntRect, k0_pay17 v17 v20 (segv c arg1 g1 (Ring.bk 8 k)) (xblk c (yAt c arg1 g1 v17 v20 x6 k) (Ring.bk 8 k)) (s2M.view.readAt (Elt F) cntRect.toLoadRect (s2At x6 x9 k))⟩]

/-- What the loop holds before trip `k`. -/
def inv2 (x6 : Buf (Elt F) (xsM.view.loc (c : Thread nD τ))) (x9 : Buf (Elt F) (s2M.view.loc (c : Thread nD τ))) (k : ℕ) : sProp 𝕄 :=
  iprop(segP c arg1 g1 ∗ xsP c (yAt c arg1 g1 v17 v20 x6 k) ∗ s2P c (s2At c arg1 g1 v17 v20 x6 x9 k))

/-- One more trip's rows, at any spelling of the trip's offsets; -/
theorem yAt_step (x6 : Buf (Elt F) (xsM.view.loc (c : Thread nD τ))) (k : ℕ) {o12 : Fin 3 → Nat} {o13 : Fin 2 → Nat}
    (e12 : o12 = segOff (Ring.bk 8 k)) (e13 : o13 = blkOff (Ring.bk 8 k)) (h12) (h13) :
    yAt c arg1 g1 v17 v20 x6 (k + 1) = xsM.view.writes (Elt F) (yAt c arg1 g1 v17 v20 x6 k)
      [⟨Rect.unit (s := S131072x128) o13 S16384x128.size h13,
        k0_pay16 v17 v20 (arg1.view.readAt (Elt F) (Rect.unit (s := S8x1x16384) o12 S1x1x16384.size h12).toLoadRect g1)
          (xsM.view.readAt (Elt F) (Rect.unit (s := S131072x128) o13 S16384x128.size h13).toLoadRect (yAt c arg1 g1 v17 v20 x6 k))⟩] := by
  subst e12 e13; rfl
/-- one more trip's sums, likewise. -/
theorem s2At_step (x6 : Buf (Elt F) (xsM.view.loc (c : Thread nD τ))) (x9 : Buf (Elt F) (s2M.view.loc (c : Thread nD τ))) (k : ℕ)
    {o12 : Fin 3 → Nat} {o13 : Fin 2 → Nat} (e12 : o12 = segOff (Ring.bk 8 k)) (e13 : o13 = blkOff (Ring.bk 8 k)) (h12) (h13) :
    s2At c arg1 g1 v17 v20 x6 x9 (k + 1) = s2M.view.writes (Elt F) (s2At c arg1 g1 v17 v20 x6 x9 k)
      [⟨cntRect, k0_pay17 v17 v20 (arg1.view.readAt (Elt F) (Rect.unit (s := S8x1x16384) o12 S1x1x16384.size h12).toLoadRect g1)
          (xsM.view.readAt (Elt F) (Rect.unit (s := S131072x128) o13 S16384x128.size h13).toLoadRect (yAt c arg1 g1 v17 v20 x6 k))
          (s2M.view.readAt (Elt F) cntRect.toLoadRect (s2At c arg1 g1 v17 v20 x6 x9 k))⟩] := by
  subst e12 e13; rfl

/-- One trip. -/
theorem trip2_run (v76 v78 : BitVec 32) (v67 : BitVec 1) (k : Fin k0_t2_loop.trips)
    (x6 : Buf (Elt F) (xsM.view.loc (c : Thread nD τ))) (x9 : Buf (Elt F) (s2M.view.loc (c : Thread nD τ))) :
    inv2 c arg1 g1 v17 v20 x6 x9 k.val
      ⊢ wp frame (wpE (defs₀ (F := F)) 𝒱₀ (c : Thread nD τ) none) Set.univ (trip2 arg1 harg1 arg2 harg2 arg3 harg3 arg4 harg4 v17 v20 v76 v78 v67 k)
          (fun _ => inv2 c arg1 g1 v17 v20 x6 x9 (k.val + 1)) := by
  unfold inv2
  iintro ⟨H1, H6, H9⟩
  dsimp only [trip2]
  sl_unfold [k0_t2_body]
  sl_exec
  sl_step
  isplitl [H1]; · iexact H1
  isplitl [H6]
  · irw [yAt_step c arg1 g1 v17 v20 x6 k.val (off12_eq k) (off13_eq k) (k0_off12_inb k) (k0_off13_inb k)]; iexact H6
  irw [s2At_step c arg1 g1 v17 v20 x6 x9 k.val (off12_eq k) (off13_eq k) (k0_off12_inb k) (k0_off13_inb k)]; iexact H9

set_option warn.classDefReducibility false in
/-- The loop's invariant. -/
@[sl_loop] def loopInv2 (v76 v78 : BitVec 32) (v67 : BitVec 1)
    (x6 : Buf (Elt F) (xsM.view.loc (c : Thread nD τ))) (x9 : Buf (Elt F) (s2M.view.loc (c : Thread nD τ))) :
    LoopInvTy_k0_t2 (F := F) Unit ℕ (UU nD τ) ℕ 𝒱₀ c none Set.univ featM (Memref.isWhole_whole _) arg1 harg1 arg2 harg2 arg3 harg3 arg4 harg4 outM (Memref.isWhole_whole _)
      xsM (Memref.isWhole_whole _) ssM (Memref.isWhole_whole _) cntM (Memref.isWhole_whole _) s2M (Memref.isWhole_whole _)
      rbuf (Memref.isWhole_whole _) cc0_scoped1 wbuf (Memref.isWhole_whole _) cc0_scoped3 v76 v78 v67 v17 v20 where
  inv k _ := inv2 c arg1 g1 v17 v20 x6 x9 k
  step k _ := trip2_run c arg1 harg1 arg2 harg2 arg3 harg3 arg4 harg4 g1 v17 v20 v76 v78 v67 k x6 x9
end Trip
end Cert.KernelIdeal.Hand
-- ==== Proof.WriteLoop.lean ====
/-
  The write loop: its state before trip `k`, one trip, and the loop's invariant.
-/
module

public import proofs.«01_k».proof.Proof.ReadLoop
public import Idealize.ShloMosaic.Lib.Pipeline.ValueKit

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Pieces
variable (c : Dev nD)

/-- Slot `s`'s cell at rest. -/
abbrev wcellP (s : Fin 2) : sProp 𝕄 := semVal ((c : Thread nD τ), SemLoc.dma (wcell s).sem) 0
/-- Slot `s` of the write buffer at contents `f`. -/
abbrev wslotP (s : Fin 2) (f : Buf (Elt F) ((wslot s).view.loc (c : Thread nD τ))) : sProp 𝕄 :=
  (wslot s).view.loc (c : Thread nD τ) ↦[(wslot s).view.set]{fullShare} f
/-- Block `b` of the result at contents `f`. -/
abbrev oblkP (f : Buf (Elt F) (outM.view.loc (c : Thread nD τ))) (b : Fin 8) : sProp 𝕄 := (oblk b).view.loc (c : Thread nD τ) ↦[(oblk b).view.set]{fullShare} f
/-- Slot `s`'s words on their way to block `b`, where they replace `f`. -/
abbrev wflightP (s : Fin 2) (b : Fin 8) (w : S16384x128.Idx → Elt F .f32) (f : Buf (Elt F) (outM.view.loc (c : Thread nD τ)))
    (g : Buf (Elt F) ((wslot s).view.loc (c : Thread nD τ))) : sProp 𝕄 :=
  Transfers.Flight countersEmb (c : Thread nD τ) (SemLoc.dma (wcell s).sem) () amount
    iprop(oblkP c ((oblk b).view.writes (Elt F) f [⟨Rect.whole S16384x128, w⟩]) b ∗ wslotP c s g)

end Pieces

/-- A piece of memory with words written all over it is any contents that read as those words. -/
theorem whole_read {cs : Space} {s : Shape} {e : EltTy} (c : Dev nD) (m : Memref sig .tc cs s e) (f g : Buf (Elt F) (m.view.loc (c : Thread nD τ)))
    (w : s.Idx → Elt F e) (h : m.view.read (Elt F) g = w) :
    (m.view.loc (c : Thread nD τ) ↦[m.view.set]{fullShare} m.view.writes (Elt F) f [⟨Rect.whole s, w⟩] : sProp 𝕄) = m.view.loc (c : Thread nD τ) ↦[m.view.set]{fullShare} g := by
  have e1 := pointsTo_rep (Ix := Unit) (Name := ℕ) (U := UU nD τ) (Lvl := ℕ) (c : Thread nD τ) m (m.view.writes (Elt F) f [⟨Rect.whole s, w⟩]) fullShare
  have e2 := pointsTo_rep (Ix := Unit) (Name := ℕ) (U := UU nD τ) (Lvl := ℕ) (c : Thread nD τ) m g fullShare
  rw [View.read_writes_whole] at e1
  rw [h] at e2
  exact e1.trans e2.symm

/-- What a slot reads as after a block's words are stored in it, at any spelling of the slot's offset. -/
theorem wslot_stored (c : Dev nD) {off : Fin 3 → Nat} {s : Fin 2} (e : off = slotOff s) (hh) (f : Buf (Elt F) ((wslot s).view.loc (c : Thread nD τ)))
    (p : S1x16384x128.Idx → Elt F .f32) :
    (wslot s).view.read (Elt F) ((wbuf.access (Rect.unit (s := S2x16384x128) off S1x16384x128.size hh)).write (Elt F) f p Finset.univ)
      = fun i => p (Shape.reshapeEquiv squeezes_S1x16384x128_S16384x128.numel_eq i) := by
  subst e
  funext i
  exact congrFun (View.read_write_univ (v := wbuf.access (slotRect s)) f p) _

section Trip
variable (c : Dev nD)
  (arg1 : Memref sig .tc .vmem S8x1x16384 .i32) (harg1 : arg1.IsWhole)
  (arg2 : Memref sig .tc .vmem S128x128 .f32) (harg2 : arg2.IsWhole)
  (arg3 : Memref sig .tc .vmem S1x128 .f32) (harg3 : arg3.IsWhole)
  (arg4 : Memref sig .tc .vmem S128x128 .f32) (harg4 : arg4.IsWhole)
  (g1 : Buf (Elt F) (arg1.view.loc (c : Thread nD τ)))
  (v39 : FVec F S64x128 .bf16)
  (xf : Buf (Elt F) (xsM.view.loc (c : Thread nD τ)))
  (O : Buf (Elt F) (outM.view.loc (c : Thread nD τ)))

/-- One trip's program. -/
abbrev trip3 (v27 : BitVec 1) (c0 : BitVec 32) (k : Fin k0_t3_loop.trips) : Prog (TpuEff nD τ sig (Elt F) Λ₀ .tc) (BitVec 32 × BitVec 32 × BitVec 32) :=
  k0_t3_body (F := F) featM (Memref.isWhole_whole _) arg1 harg1 arg2 harg2 arg3 harg3 arg4 harg4 outM (Memref.isWhole_whole _)
    xsM (Memref.isWhole_whole _) ssM (Memref.isWhole_whole _) cntM (Memref.isWhole_whole _) s2M (Memref.isWhole_whole _)
    rbuf (Memref.isWhole_whole _) cc0_scoped1 wbuf (Memref.isWhole_whole _) cc0_scoped3 v39 v27 c0 k (numW k, doneW k, wrapW k)

/-- Block `b` of the row buffer at contents `f`. -/
def xblk3 (b : Fin 8) : S16384x128.Idx → Elt F .bf16 := xsM.view.readAt (Elt F) (blkRect b).toLoadRect xf
/-- Block `b` of the result, as the kernel stores it into a slot; -/
def oval3 (b : Fin 8) : S1x16384x128.Idx → Elt F .f32 := k0_pay19 v39 (segv c arg1 g1 b) (xblk3 c xf b)
/-- as the transfer carries it. -/
def oval (b : Fin 8) : S16384x128.Idx → Elt F .f32 := fun i => oval3 c arg1 g1 v39 xf b (Shape.reshapeEquiv squeezes_S1x16384x128_S16384x128.numel_eq i)
/-- The block carried, at any spelling of its offsets. -/
theorem oval_eq {b : Fin 8} {o14 : Fin 3 → Nat} {o15 : Fin 2 → Nat} (e14 : o14 = segOff b) (e15 : o15 = blkOff b) (h14) (h15) :
    (fun i => k0_pay19 v39 (arg1.view.readAt (Elt F) (Rect.unit (s := S8x1x16384) o14 S1x1x16384.size h14).toLoadRect g1)
        (xsM.view.readAt (Elt F) (Rect.unit (s := S131072x128) o15 S16384x128.size h15).toLoadRect xf)
        (Shape.reshapeEquiv squeezes_S1x16384x128_S16384x128.numel_eq i)) = oval c arg1 g1 v39 xf b := by
  subst e14 e15; rfl

/-- The whole result. -/
def outAll : Buf (Elt F) (outM.view.loc (c : Thread nD τ)) := fun (i : S131072x128.Idx) =>
  oval c arg1 g1 v39 xf ⟨(i 0).val / 16384, by have : (i 0).val < 131072 := (i 0).isLt; omega⟩
    (Shape.pair (d := ![16384, 128]) ⟨(i 0).val % 16384, Nat.mod_lt _ (by decide)⟩ (i 1))

/-- Place `j` of block `b` of the result holds that block's word `j`. -/
theorem outAll_emb (b : Fin 8) (j : S16384x128.Idx) : outAll c arg1 g1 v39 xf ((blkRect b).emb j : S131072x128.Idx) = oval c arg1 g1 v39 xf b j := by
  have h0 : (((blkRect b).emb j : S131072x128.Idx) 0).val = 16384 * b.val + (j 0).val := ValueKit.rect_emb_unit_val (s := S131072x128) _ _ (blkOff_inb b) j 0
  have h1 : ((blkRect b).emb j : S131072x128.Idx) 1 = j 1 := by
    apply Fin.ext
    exact (ValueKit.rect_emb_unit_val (s := S131072x128) _ _ (blkOff_inb b) j 1).trans (Nat.zero_add _)
  have hj : (j 0).val < 16384 := (j 0).isLt
  have e1 : (⟨(((blkRect b).emb j : S131072x128.Idx) 0).val / 16384, by rw [h0]; omega⟩ : Fin 8) = b := Fin.ext (by show _ / _ = _; rw [h0]; omega)
  have e2 : (Shape.pair (d := ![16384, 128]) ⟨(((blkRect b).emb j : S131072x128.Idx) 0).val % 16384, Nat.mod_lt _ (by decide)⟩ (((blkRect b).emb j : S131072x128.Idx) 1)) = j := by
    funext a
    fin_cases a
    · apply Fin.ext
      show (((blkRect b).emb j : S131072x128.Idx) 0).val % 16384 = (j 0).val
      rw [h0]; omega
    · exact h1
  exact congr (congrArg (oval c arg1 g1 v39 xf) e1) e2

/-- The whole result, read through a block. -/
theorem oblk_read (b : Fin 8) : (oblk b).view.read (Elt F) (outAll c arg1 g1 v39 xf) = oval c arg1 g1 v39 xf b :=
  funext fun j => outAll_emb c arg1 g1 v39 xf b j

/-- A block delivered is that block of the whole result. -/
theorem oblk_done (b : Fin 8) (f : Buf (Elt F) (outM.view.loc (c : Thread nD τ))) :
    (oblkP c ((oblk b).view.writes (Elt F) f [⟨Rect.whole S16384x128, oval c arg1 g1 v39 xf b⟩]) b : sProp 𝕄) = oblkP c (outAll c arg1 g1 v39 xf) b :=
  whole_read c (oblk b) f _ _ (oblk_read c arg1 g1 v39 xf b)

/-- The write buffer's other slot before trip `k`: carrying the block before, at rest before the first trip. -/
def wrole (k : ℕ) : sProp 𝕄 :=
  Ring.roleBAt (NB := 8) 1 iprop((∃ f, wslotP c (Ring.sl 2 (k + 1)) f) ∗ wcellP c (Ring.sl 2 (k + 1)))
    (fun b => iprop(∃ g, wflightP c (Ring.sl 2 (k + 1)) b (oval c arg1 g1 v39 xf b) O g)) k

/-- What the loop holds before trip `k`. -/
def inv3 (k : ℕ) (acc : BitVec 32 × BitVec 32 × BitVec 32) : sProp 𝕄 :=
  iprop(⌜acc = (numW k, doneW k, wrapW k)⌝ ∗ segP c arg1 g1 ∗ xsP c xf ∗ (∃ W, owes (c : Thread nD τ) 0 W)
    ∗ bigSep (Ring.aheadSet (NB := 8) k) (oblkP c O) ∗ bigSep (Ring.behindSet (NB := 8) 1 k) (oblkP c (outAll c arg1 g1 v39 xf))
    ∗ (∃ f, wslotP c (Ring.sl 2 k) f) ∗ wcellP c (Ring.sl 2 k) ∗ wrole c arg1 g1 v39 xf O k)

/-- Taking the block a trip sends off those ahead; -/
theorem ahead_out (k : ℕ) (h : k < 8) : bigSep (Ring.aheadSet (NB := 8) k) (oblkP c O : Fin 8 → sProp 𝕄)
    = iprop(oblkP c O (Ring.bk 8 k) ∗ bigSep (Ring.aheadSet (NB := 8) (k + 1)) (oblkP c O)) := by
  conv_lhs => rw [Ring.aheadSet_open k h, bigSep_insert (Ring.bk_not_mem_aheadSet_succ k h)]
  rfl
/-- putting the block a trip waits for with those behind. -/
theorem behind_in (k : ℕ) (h0 : 0 < k) (h : k < 8) (Y : Buf (Elt F) (outM.view.loc (c : Thread nD τ))) :
    bigSep (Ring.behindSet (NB := 8) 1 (k + 1)) (oblkP c Y : Fin 8 → sProp 𝕄)
    = iprop(oblkP c Y (Ring.bk 8 (k - 1)) ∗ bigSep (Ring.behindSet (NB := 8) 1 k) (oblkP c Y)) := by
  conv_lhs => rw [Ring.behindSet_close 1 k h0 h, bigSep_insert (Ring.bk_not_mem_behindSet 1 k h0 h)]
  rfl

/-- A trip but the first: it stores its block, sends it, and waits for the block before. -/
theorem trip3_mid (v27 : BitVec 1) (c0 : BitVec 32) (k : Fin k0_t3_loop.trips) (h : 0 < k.val) :
    inv3 c arg1 g1 v39 xf O k.val (numW k, doneW k, wrapW k)
      ⊢ wp frame (wpE (defs₀ (F := F)) 𝒱₀ (c : Thread nD τ) none) Set.univ (trip3 arg1 harg1 arg2 harg2 arg3 harg3 arg4 harg4 v39 v27 c0 k)
          (fun acc => inv3 c arg1 g1 v39 xf O (k.val + 1) acc) := by
  have hc4 : k0_chk4 (numW k) := chk4_ok k
  have hc3 : k0_chk3 k (numW k) (doneW k) (wrapW k) := chk3_ok k
  have hi := cond6_yes k
  have hi2 := cond7_yes k h
  have hk : k.val < 8 := k.isLt
  have e0 : Ring.sl 2 (k.val + 1 + 1) = Ring.sl 2 k.val := Ring.sl_add 2 k.val
  have e1 : Ring.sl 2 (k.val + 1) = Ring.sl 2 (k.val - 1) := Ring.sl2_succ_eq_pred k.val h
  unfold inv3 wrole
  rw [Ring.roleBAt_of_le (NB := 8) 1 _ _ k.val h, Ring.roleBAt_of_le (NB := 8) 1 _ _ (k.val + 1) (by omega), ahead_out c O k.val hk, behind_in c k.val h hk, e0, e1]
  simp only [Nat.add_sub_cancel]
  iintro ⟨-, H1, H6, ⟨%W, HW⟩, ⟨HO, HA⟩, HB, ⟨%f0, HS⟩, HC, ⟨%f1, HF⟩⟩
  dsimp only [trip3]
  sl_unfold [k0_t3_body]
  sl_exec
  sl_step
  isplitr
  · ipureintro
    refine Prod.ext ?_ (Prod.ext ?_ ?_) <;> (clear * - h; revert k; decide)
  have eO : trip3_mid.sl.dma4 c arg1 g1 v39 xf k hc4 hc3 f0 = oval c arg1 g1 v39 xf (Ring.bk 8 k.val) := by
    unfold trip3_mid.sl.dma4 trip3_mid.sl.HS_w1
    refine (wslot_stored c (off16_eq k) _ f0 _).trans ?_
    unfold trip3_mid.sl.v113_r1 trip3_mid.sl.v126_r1
    exact oval_eq c arg1 g1 v39 xf (off14_eq k) (off15_eq k) _ _
  isplitl [H1]; · iexact H1
  isplitl [H6]; · iexact H6
  isplitl [HW]; · iexists _; iexact HW
  isplitl [HA]; · iexact HA
  isplitl [HF_dst HB]
  · isplitl [HF_dst]
    · irw [← oblk_done c arg1 g1 v39 xf (Ring.bk 8 (k.val - 1)) O]; iexact HF_dst
    iexact HB
  isplitl [HF_src]; · iexists f1; iexact HF_src
  isplitl [HF]; · iexact HF
  iexists _
  irw [← eO]
  iexact HC

/-- The first trip: it stores its block and sends it. -/
theorem trip3_first (v27 : BitVec 1) (c0 : BitVec 32) (k : Fin k0_t3_loop.trips) (h : ¬ 0 < k.val) :
    inv3 c arg1 g1 v39 xf O k.val (numW k, doneW k, wrapW k)
      ⊢ wp frame (wpE (defs₀ (F := F)) 𝒱₀ (c : Thread nD τ) none) Set.univ (trip3 arg1 harg1 arg2 harg2 arg3 harg3 arg4 harg4 v39 v27 c0 k)
          (fun acc => inv3 c arg1 g1 v39 xf O (k.val + 1) acc) := by
  have hc4 : k0_chk4 (numW k) := chk4_ok k
  have hc3 : k0_chk3 k (numW k) (doneW k) (wrapW k) := chk3_ok k
  have hi := cond6_yes k
  have hi2 := cond7_no k h
  have hk : k.val < 8 := k.isLt
  have ek : k.val = 0 := by omega
  have e0 : Ring.sl 2 (k.val + 1 + 1) = Ring.sl 2 k.val := Ring.sl_add 2 k.val
  unfold inv3 wrole
  rw [Ring.roleBAt_of_lt (NB := 8) 1 _ _ k.val (by omega), Ring.roleBAt_of_le (NB := 8) 1 _ _ (k.val + 1) (by omega), ahead_out c O k.val hk, e0,
    Ring.behindSet_boot 1 k.val (by omega), Ring.behindSet_boot 1 (k.val + 1) (by omega)]
  simp only [Nat.add_sub_cancel]
  iintro ⟨-, H1, H6, ⟨%W, HW⟩, ⟨HO, HA⟩, HB, ⟨%f0, HS⟩, HC, HS', HC'⟩
  dsimp only [trip3]
  sl_unfold [k0_t3_body]
  sl_exec
  sl_step
  isplitr
  · ipureintro
    refine Prod.ext ?_ (Prod.ext ?_ ?_) <;> (clear * - h; revert k; decide)
  have eO : trip3_first.sl.dma4 c arg1 g1 v39 xf k hc4 hc3 f0 = oval c arg1 g1 v39 xf (Ring.bk 8 k.val) := by
    unfold trip3_first.sl.dma4 trip3_first.sl.HS_w1
    refine (wslot_stored c (off16_eq k) _ f0 _).trans ?_
    unfold trip3_first.sl.v113_r1 trip3_first.sl.v126_r1
    exact oval_eq c arg1 g1 v39 xf (off14_eq k) (off15_eq k) _ _
  isplitl [H1]; · iexact H1
  isplitl [H6]; · iexact H6
  isplitl [HW]; · iexists _; iexact HW
  isplitl [HA]; · iexact HA
  isplitl [HB]; · iexact HB
  isplitl [HS']; · iexact HS'
  isplitl [HC']; · iexact HC'
  iexists _
  irw [← eO]
  iexact HC

/-- One trip, at whatever words the loop carries into it. -/
theorem trip3_run (v27 : BitVec 1) (c0 : BitVec 32) (k : Fin k0_t3_loop.trips) (acc : BitVec 32 × BitVec 32 × BitVec 32) :
    inv3 c arg1 g1 v39 xf O k.val acc
      ⊢ wp frame (wpE (defs₀ (F := F)) 𝒱₀ (c : Thread nD τ) none) Set.univ
          (k0_t3_body (F := F) featM (Memref.isWhole_whole _) arg1 harg1 arg2 harg2 arg3 harg3 arg4 harg4 outM (Memref.isWhole_whole _)
            xsM (Memref.isWhole_whole _) ssM (Memref.isWhole_whole _) cntM (Memref.isWhole_whole _) s2M (Memref.isWhole_whole _)
            rbuf (Memref.isWhole_whole _) cc0_scoped1 wbuf (Memref.isWhole_whole _) cc0_scoped3 v39 v27 c0 k acc)
          (fun acc => inv3 c arg1 g1 v39 xf O (k.val + 1) acc) := by
  by_cases e : acc = (numW k.val, doneW k.val, wrapW k.val)
  · subst e
    by_cases h : 0 < k.val
    · exact trip3_mid c arg1 harg1 arg2 harg2 arg3 harg3 arg4 harg4 g1 v39 xf O v27 c0 k h
    · exact trip3_first c arg1 harg1 arg2 harg2 arg3 harg3 arg4 harg4 g1 v39 xf O v27 c0 k h
  · unfold inv3
    iintro ⟨%e', -⟩; exact absurd e' e

/-- Before the first trip: every block is ahead and both slots are at rest. -/
theorem inv3_start (acc : BitVec 32 × BitVec 32 × BitVec 32) :
    inv3 c arg1 g1 v39 xf O 0 acc
      = iprop(⌜acc = (numW 0, doneW 0, wrapW 0)⌝ ∗ segP c arg1 g1 ∗ xsP c xf ∗ (∃ W, owes (c : Thread nD τ) 0 W)
    ∗ bigSep Finset.univ (oblkP c O) ∗ emp
    ∗ (∃ f, wslotP c 0 f) ∗ wcellP c 0 ∗ (∃ f, wslotP c 1 f) ∗ wcellP c 1) := by
  unfold inv3 wrole
  rw [Ring.roleBAt_of_lt (NB := 8) 1 _ _ 0 (by omega), Ring.aheadSet_zero, Ring.behindSet_boot 1 0 (by omega), bigSep_empty]
  rfl
/-- Past the last trip: slot 1 carries the last block, every other is in the result. -/
theorem inv3_done (acc : BitVec 32 × BitVec 32 × BitVec 32) :
    inv3 c arg1 g1 v39 xf O 8 acc
      = iprop(⌜acc = (numW 8, doneW 8, wrapW 8)⌝ ∗ segP c arg1 g1 ∗ xsP c xf ∗ (∃ W, owes (c : Thread nD τ) 0 W)
    ∗ emp ∗ bigSep (Ring.behindSet (NB := 8) 1 8) (oblkP c (outAll c arg1 g1 v39 xf))
    ∗ (∃ f, wslotP c 0 f) ∗ wcellP c 0 ∗ (∃ g, wflightP c 1 7 (oval c arg1 g1 v39 xf 7) O g)) := by
  unfold inv3 wrole
  rw [Ring.roleBAt_of_le (NB := 8) 1 _ _ 8 (by omega), Ring.aheadSet_end 8 (by omega), bigSep_empty]
  rfl
/-- The last block joins the others. -/
theorem all_behind (Y : Buf (Elt F) (outM.view.loc (c : Thread nD τ))) :
    bigSep Finset.univ (oblkP c Y : Fin 8 → sProp 𝕄) = iprop(oblkP c Y 7 ∗ bigSep (Ring.behindSet (NB := 8) 1 8) (oblkP c Y)) := by
  conv_lhs => rw [show (Finset.univ : Finset (Fin 8)) = insert 7 (Ring.behindSet (NB := 8) 1 8) by decide, bigSep_insert (by decide)]
  rfl
end Trip
end Cert.KernelIdeal.Hand
-- ==== Proof.Values.lean ====
/-
  What the loops leave, free of the buffers it lay in: the projected rows of a block, the sums per segment, the rows
  centred and cut, and the result, each a function of the kernel's inputs alone.
-/
module

public import proofs.«01_k».proof.Proof.MidLoop
public import proofs.«01_k».proof.Proof.WriteLoop

@[expose] public section

noncomputable section

namespace Cert.KernelIdeal.Hand

open Cert.KernelIdeal Cert.KernelIdeal.Gen
open Idealize.ShloMosaic
open Idealize.ShloMosaic.TcCoe Idealize.ShloMosaic.Tactic

variable {F : FTy → Type} [FloatOps F]

section Closed
variable (w1 : FVec F S128x128 .bf16) (b1 : FVec F S1x128 .bf16) (fe : Fin 8 → S1x16384x128.Idx → Elt F .f32)
  (sg : Fin 8 → S1x1x16384.Idx → Elt F .i32) (tw : Vec F S128x128 .f32)

/-- Block `b` of the projected rows. -/
def xbV (b : Fin 8) : S16384x128.Idx → Elt F .bf16 := k0_pay2 w1 b1 (fe b)
/-- The sums and the sums of squares per segment over the first `k` blocks. -/
def ssV : ℕ → Vec F S64x256 .f32
  | 0 => k0_pay6 (F := F)
  | k + 1 => k0_pay4 w1 b1 (fe (Ring.bk 8 k)) (sg (Ring.bk 8 k)) (ssV k)
/-- The counts per segment over the first `k` blocks. -/
def cntV : ℕ → Vec F S64x128 .f32
  | 0 => k0_pay7 (F := F)
  | k + 1 => k0_pay11 (cntV k) (k0_pay5 (sg (Ring.bk 8 k)))
/-- The sums and the sums of squares, apart. -/
def sumV : Vec F S64x128 .f32 := fun i => ssV w1 b1 fe sg 8 ((Rect.unit (s := S64x256) ![0, 0] S64x128.size inb_S64x256_S64x128_0_0).emb i)
def sqV : Vec F S64x128 .f32 := fun i => ssV w1 b1 fe sg 8 ((Rect.unit (s := S64x256) ![0, 128] S64x128.size inb_S64x256_S64x128_0_128).emb i)
/-- Block `b` of the rows centred and cut at zero. -/
def ybV (b : Fin 8) : S16384x128.Idx → Elt F .bf16 := k0_pay16 (cntV sg 8) (sumV w1 b1 fe sg) (sg b) (xbV w1 b1 fe b)
/-- Their sums per segment over the first `k` blocks. -/
def s2V : ℕ → Vec F S64x128 .f32
  | 0 => k0_pay8 (F := F)
  | k + 1 => k0_pay17 (cntV sg 8) (sumV w1 b1 fe sg) (sg (Ring.bk 8 k)) (xbV w1 b1 fe (Ring.bk 8 k)) (s2V k)
/-- The factor of each segment and channel. -/
def rgV : FVec F S64x128 .bf16 := k0_pay18 (cntV sg 8) (sumV w1 b1 fe sg) (sqV w1 b1 fe sg) (s2V w1 b1 fe sg 8) tw
/-- Block `b` of the result; -/
def obV (b : Fin 8) : S16384x128.Idx → Elt F .f32 := fun i =>
  k0_pay19 (rgV w1 b1 fe sg tw) (sg b) (ybV w1 b1 fe sg b) (Shape.reshapeEquiv squeezes_S1x16384x128_S16384x128.numel_eq i)
/-- the whole of it. -/
def outV : S131072x128.Idx → Elt F .f32 := fun i =>
  obV w1 b1 fe sg tw ⟨(i 0).val / 16384, by have : (i 0).val < 131072 := (i 0).isLt; omega⟩
    (Shape.pair (d := ![16384, 128]) ⟨(i 0).val % 16384, Nat.mod_lt _ (by decide)⟩ (i 1))
end Closed

/-! ## Blocks of the row buffer, read after stores of blocks -/

/-- A block read where it was just stored. -/
theorem blk_same (b : Fin 8) (f : xsM.view.ty.Contents (Elt F)) (w : S16384x128.Idx → Elt F .bf16) :
    xsM.view.readAt (Elt F) (blkRect b).toLoadRect (xsM.view.writes (Elt F) f [⟨blkRect b, w⟩]) = w := by
  funext j
  exact View.read_writes_cons_unit_of_mem xsM.view f (blkOff_inb b) w [] ((blkRect b).emb j) j rfl
    fun a => ValueKit.rect_emb_unit_val (s := S131072x128) _ _ (blkOff_inb b) j a
/-- A block read after another was stored. -/
theorem blk_other (b b' : Fin 8) (h : b ≠ b') (f : xsM.view.ty.Contents (Elt F)) (w : S16384x128.Idx → Elt F .bf16) :
    xsM.view.readAt (Elt F) (blkRect b).toLoadRect (xsM.view.writes (Elt F) f [⟨blkRect b', w⟩]) = xsM.view.readAt (Elt F) (blkRect b).toLoadRect f := by
  funext j
  refine View.read_writes_cons_unit_of_not_mem xsM.view f (blkOff_inb b') w [] ((blkRect b).emb j) rfl 0 ?_
  have e : (((blkRect b).emb j : S131072x128.Idx) 0).val = 16384 * b.val + (j 0).val := ValueKit.rect_emb_unit_val (s := S131072x128) _ _ (blkOff_inb b) j 0
  have hj : (j 0).val < 16384 := (j 0).isLt
  have hb : b.val ≠ b'.val := fun e => h (Fin.ext e)
  show (((blkRect b).emb j : S131072x128.Idx) 0).val < 16384 * b'.val ∨ 16384 * b'.val + 16384 ≤ (((blkRect b).emb j : S131072x128.Idx) 0).val
  rw [e]; omega

/-- Blocks stored one a step, from 0 on: a block not yet stored is the old one, -/
theorem blk_before (X : ℕ → xsM.view.ty.Contents (Elt F)) (w : ℕ → S16384x128.Idx → Elt F .bf16)
    (hX : ∀ k, X (k + 1) = xsM.view.writes (Elt F) (X k) [⟨blkRect (Ring.bk 8 k), w k⟩]) (b : Fin 8) (k : ℕ) (hk : k ≤ b.val) :
    xsM.view.readAt (Elt F) (blkRect b).toLoadRect (X k) = xsM.view.readAt (Elt F) (blkRect b).toLoadRect (X 0) := by
  induction k with
  | zero => rfl
  | succ k ih =>
    rw [hX, blk_other b _ ?_, ih (by omega)]
    intro e
    have := congrArg Fin.val e
    rw [Ring.bk_val (by omega)] at this; omega
/-- and a block stored is the new one. -/
theorem blk_after (X : ℕ → xsM.view.ty.Contents (Elt F)) (w : ℕ → S16384x128.Idx → Elt F .bf16)
    (hX : ∀ k, X (k + 1) = xsM.view.writes (Elt F) (X k) [⟨blkRect (Ring.bk 8 k), w k⟩]) (b : Fin 8) (k : ℕ) (hk : b.val < k) (h8 : k ≤ 8) :
    xsM.view.readAt (Elt F) (blkRect b).toLoadRect (X k) = w b.val := by
  induction k with
  | zero => omega
  | succ k ih =>
    rw [hX]
    by_cases e : b = Ring.bk 8 k
    · have hv : b.val = k := by rw [e, Ring.bk_val (by omega)]
      rw [← e, hv]; exact blk_same b _ _
    · rw [blk_other b _ e]
      refine ih ?_ (by omega)
      have : b.val ≠ k := fun hv => e (Fin.ext (by rw [Ring.bk_val (by omega)]; exact hv))
      omega

/-- Block `b` is the block of its own number. -/
theorem bk_self (b : Fin 8) : Ring.bk 8 b.val = b := Fin.ext (Ring.bk_val b.isLt)

section Closing
variable (c : Dev nD) (XA : Buf (Elt F) (featM.view.loc (c : Thread nD τ)))
  (arg1 : Memref sig .tc .vmem S8x1x16384 .i32) (g1 : Buf (Elt F) (arg1.view.loc (c : Thread nD τ)))
  (w1 : FVec F S128x128 .bf16) (b1 : FVec F S1x128 .bf16)

/-- The accumulators before their first block. -/
def ss0 : Buf (Elt F) (ssM.view.loc (c : Thread nD τ)) := ssM.view.writes (Elt F) ssM.view.junk [⟨ssRect, k0_pay6 (F := F)⟩]
def cnt0 : Buf (Elt F) (cntM.view.loc (c : Thread nD τ)) := cntM.view.writes (Elt F) cntM.view.junk [⟨cntRect, k0_pay7 (F := F)⟩]
def s20 : Buf (Elt F) (s2M.view.loc (c : Thread nD τ)) := s2M.view.writes (Elt F) s2M.view.junk [⟨cntRect, k0_pay8 (F := F)⟩]

/-- The projected rows' buffer holds the projected rows. -/
theorem xs_eq (x6 : Buf (Elt F) (xsM.view.loc (c : Thread nD τ))) (b : Fin 8) :
    xblk c (xsAt c XA w1 b1 x6 8) b = xbV w1 b1 (fval c XA) b := by
  refine (blk_after (xsAt c XA w1 b1 x6) (fun k => xbV w1 b1 (fval c XA) (Ring.bk 8 k)) (fun k => rfl) b 8 b.isLt (le_refl 8)).trans ?_
  show xbV w1 b1 (fval c XA) (Ring.bk 8 b.val) = _
  rw [bk_self]

/-- The sums' buffer holds the sums. -/
theorem ss_eq (k : ℕ) : ssM.view.read (Elt F) (ssAt c XA arg1 g1 w1 b1 (ss0 c) k) = ssV w1 b1 (fval c XA) (segv c arg1 g1) k := by
  induction k with
  | zero => exact View.read_writes_full _ _ _ _ _
  | succ k ih =>
    refine (View.read_writes_full _ _ _ _ _).trans ?_
    rw [View.readAt_full, ih]; rfl
/-- The counts' buffer holds the counts. -/
theorem cnt_eq (k : ℕ) : cntM.view.read (Elt F) (cntAt c arg1 g1 (cnt0 c) k) = cntV (segv c arg1 g1) k := by
  induction k with
  | zero => exact View.read_writes_full _ _ _ _ _
  | succ k ih =>
    refine (View.read_writes_full _ _ _ _ _).trans ?_
    rw [View.readAt_full, ih]; rfl
/-- The rows' buffer, trip by trip of the middle loop. -/
theorem y_mid (v17 v20 : Vec F S64x128 .f32) (x6 : Buf (Elt F) (xsM.view.loc (c : Thread nD τ))) (b : Fin 8) (k : ℕ) (hk : k ≤ b.val) :
    xblk c (yAt c arg1 g1 v17 v20 x6 k) b = xblk c x6 b :=
  blk_before (yAt c arg1 g1 v17 v20 x6) (fun k => k0_pay16 v17 v20 (segv c arg1 g1 (Ring.bk 8 k)) (xblk c (yAt c arg1 g1 v17 v20 x6 k) (Ring.bk 8 k)))
    (fun k => rfl) b k hk
/-- After the middle loop it holds the rows centred and cut. -/
theorem y_eq (v17 v20 : Vec F S64x128 .f32) (x6 : Buf (Elt F) (xsM.view.loc (c : Thread nD τ))) (b : Fin 8) :
    xblk3 c (yAt c arg1 g1 v17 v20 x6 8) b = k0_pay16 v17 v20 (segv c arg1 g1 b) (xblk c x6 b) := by
  refine (blk_after (yAt c arg1 g1 v17 v20 x6) (fun k => k0_pay16 v17 v20 (segv c arg1 g1 (Ring.bk 8 k)) (xblk c (yAt c arg1 g1 v17 v20 x6 k) (Ring.bk 8 k)))
    (fun k => rfl) b 8 b.isLt (le_refl 8)).trans ?_
  show k0_pay16 v17 v20 (segv c arg1 g1 (Ring.bk 8 b.val)) (xblk c (yAt c arg1 g1 v17 v20 x6 b.val) (Ring.bk 8 b.val)) = _
  rw [bk_self, y_mid c arg1 g1 v17 v20 x6 b b.val (le_refl _)]
/-- The second sums' buffer holds the sums of the rows centred and cut. -/
theorem s2_eq (v17 v20 : Vec F S64x128 .f32) (x6 : Buf (Elt F) (xsM.view.loc (c : Thread nD τ)))
    (hv : v17 = cntV (segv c arg1 g1) 8) (hs : v20 = sumV w1 b1 (fval c XA) (segv c arg1 g1)) (hx : ∀ b, xblk c x6 b = xbV w1 b1 (fval c XA) b)
    (k : ℕ) (hk : k ≤ 8) :
    s2M.view.read (Elt F) (s2At c arg1 g1 v17 v20 x6 (s20 c) k) = s2V w1 b1 (fval c XA) (segv c arg1 g1) k := by
  induction k with
  | zero => exact View.read_writes_full _ _ _ _ _
  | succ k ih =>
    refine (View.read_writes_full _ _ _ _ _).trans ?_
    rw [View.readAt_full, ih (by omega), y_mid c arg1 g1 v17 v20 x6 (Ring.bk 8 k) k (by rw [Ring.bk_val (by omega)]), hx, hv, hs]; rfl

/-- The result the write loop leaves, given what its inputs are. -/
theorem out_eq (tw : Vec F S128x128 .f32) (v39 : FVec F S64x128 .bf16) (xf : Buf (Elt F) (xsM.view.loc (c : Thread nD τ)))
    (h39 : v39 = rgV w1 b1 (fval c XA) (segv c arg1 g1) tw) (hy : ∀ b, xblk3 c xf b = ybV w1 b1 (fval c XA) (segv c arg1 g1) b) :
    outAll c arg1 g1 v39 xf = outV w1 b1 (fval c XA) (segv c arg1 g1) tw := by
  subst h39
  have h : ∀ b, oval c arg1 g1 (rgV w1 b1 (fval c XA) (segv c arg1 g1) tw) xf b = obV w1 b1 (fval c XA) (segv c arg1 g1) tw b := by
    intro b
    unfold oval oval3 obV
    rw [hy]
  funext i
  exact congrFun (h _) _
end Closing
end Cert.KernelIdeal.Hand
-- ==== Proof.Body.lean ====
/-
  The kernel's body, run whole: what it is handed, what it hands back, and the result it leaves.
-/
module

public import proofs.«01_k».proof.Proof.Values

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body
variable (c : Dev nD) (XA : Buf (Elt F) (featM.view.loc (c : Thread nD τ)))
  (arg1 : Memref sig .tc .vmem S8x1x16384 .i32) (harg1 : arg1.IsWhole)
  (arg2 : Memref sig .tc .vmem S128x128 .f32) (harg2 : arg2.IsWhole)
  (arg3 : Memref sig .tc .vmem S1x128 .f32) (harg3 : arg3.IsWhole)
  (arg4 : Memref sig .tc .vmem S128x128 .f32) (harg4 : arg4.IsWhole)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))
  (O : Buf (Elt F) (outM.view.loc (c : Thread nD τ)))

/-- The kernel's program on its buffers. -/
abbrev bodyG : Prog (TpuEff nD τ sig (Elt F) Λ₀ .tc) PUnit :=
  cc0__outer (F := F) featM (Memref.isWhole_whole _) arg1 harg1 arg2 harg2 arg3 harg3 arg4 harg4 outM (Memref.isWhole_whole _)
    xsM (Memref.isWhole_whole _) ssM (Memref.isWhole_whole _) cntM (Memref.isWhole_whole _) s2M (Memref.isWhole_whole _)
    rbuf (Memref.isWhole_whole _) cc0_scoped1 wbuf (Memref.isWhole_whole _) cc0_scoped3

abbrev wP (f : Buf (Elt F) (arg2.view.loc (c : Thread nD τ))) : sProp 𝕄 := arg2.view.loc (c : Thread nD τ) ↦[arg2.view.set]{fullShare} f
abbrev bP (f : Buf (Elt F) (arg3.view.loc (c : Thread nD τ))) : sProp 𝕄 := arg3.view.loc (c : Thread nD τ) ↦[arg3.view.set]{fullShare} f
abbrev tP (f : Buf (Elt F) (arg4.view.loc (c : Thread nD τ))) : sProp 𝕄 := arg4.view.loc (c : Thread nD τ) ↦[arg4.view.set]{fullShare} f

theorem sl2_0 : Ring.sl 2 0 = 0 := Fin.ext (by rfl)
theorem sl2_1 : Ring.sl 2 (0 + 1) = 1 := Fin.ext (by rfl)
theorem bk8_0 : Ring.bk 8 0 = 0 := Fin.ext (by rfl)

/-- The projection's weights and its offset, as the kernel multiplies with them. -/
def w1v : FVec F S128x128 .bf16 := k0_pay9 (arg2.view.readAt (Elt F) (Rect.unit (s := S128x128) ![0, 0] S128x128.size inb_S128x128_S128x128_0_0).toLoadRect g2)
def b1v : FVec F S1x128 .bf16 := k0_pay10 (arg3.view.readAt (Elt F) (Rect.unit (s := S1x128) ![0, 0] S1x128.size inb_S1x128_S1x128_0_0).toLoadRect g3)
/-- The rows projected; the counts; the two halves of the sums: as the read loop leaves them. -/
def xsF (x6 : Buf (Elt F) (xsM.view.loc (c : Thread nD τ))) := xsAt c XA (w1v c arg2 g2) (b1v c arg3 g3) x6 8
def v17F : Vec F S64x128 .f32 := cntM.view.readAt (Elt F) cntRect.toLoadRect (cntAt c arg1 g1 (cnt0 c) 8)
def v20F : Vec F S64x128 .f32 := ssM.view.readAt (Elt F) (Rect.unit (s := S64x256) ![0, 0] S64x128.size inb_S64x256_S64x128_0_0).toLoadRect
  (ssAt c XA arg1 g1 (w1v c arg2 g2) (b1v c arg3 g3) (ss0 c) 8)
def v22F : Vec F S64x128 .f32 := ssM.view.readAt (Elt F) (Rect.unit (s := S64x256) ![0, 128] S64x128.size inb_S64x256_S64x128_0_128).toLoadRect
  (ssAt c XA arg1 g1 (w1v c arg2 g2) (b1v c arg3 g3) (ss0 c) 8)
/-- The rows centred and cut, their sums, and the factor of each segment: as the middle loop leaves them. -/
def yF (x6 : Buf (Elt F) (xsM.view.loc (c : Thread nD τ))) := yAt c arg1 g1 (v17F c arg1 g1) (v20F c XA arg1 arg2 arg3 g1 g2 g3) (xsF c XA arg2 arg3 g2 g3 x6) 8
def v31F (x6 : Buf (Elt F) (xsM.view.loc (c : Thread nD τ))) : Vec F S64x128 .f32 := s2M.view.readAt (Elt F) cntRect.toLoadRect
  (s2At c arg1 g1 (v17F c arg1 g1) (v20F c XA arg1 arg2 arg3 g1 g2 g3) (xsF c XA arg2 arg3 g2 g3 x6) (s20 c) 8)
def v34F : Vec F S128x128 .f32 := arg4.view.readAt (Elt F) (Rect.unit (s := S128x128) ![0, 0] S128x128.size inb_S128x128_S128x128_0_0).toLoadRect g4
def v39F (x6 : Buf (Elt F) (xsM.view.loc (c : Thread nD τ))) : FVec F S64x128 .bf16 :=
  k0_pay18 (v17F c arg1 g1) (v20F c XA arg1 arg2 arg3 g1 g2 g3) (v22F c XA arg1 arg2 arg3 g1 g2 g3) (v31F c XA arg1 arg2 arg3 g1 g2 g3 x6) (v34F c arg4 g4)

/-- The factor the write loop is given is the closed one, -/
theorem v39_eq (x6 : Buf (Elt F) (xsM.view.loc (c : Thread nD τ))) :
    v39F c XA arg1 arg2 arg3 arg4 g1 g2 g3 g4 x6 = rgV (w1v c arg2 g2) (b1v c arg3 g3) (fval c XA) (segv c arg1 g1) (v34F c arg4 g4) := by
  have h17 : v17F c arg1 g1 = cntV (segv c arg1 g1) 8 := (View.readAt_full _ _ _).trans (cnt_eq c arg1 g1 8)
  have h20 : v20F c XA arg1 arg2 arg3 g1 g2 g3 = sumV (w1v c arg2 g2) (b1v c arg3 g3) (fval c XA) (segv c arg1 g1) :=
    funext fun i => congrFun (ss_eq c XA arg1 g1 (w1v c arg2 g2) (b1v c arg3 g3) 8) _
  have h22 : v22F c XA arg1 arg2 arg3 g1 g2 g3 = sqV (w1v c arg2 g2) (b1v c arg3 g3) (fval c XA) (segv c arg1 g1) :=
    funext fun i => congrFun (ss_eq c XA arg1 g1 (w1v c arg2 g2) (b1v c arg3 g3) 8) _
  have h31 : v31F c XA arg1 arg2 arg3 g1 g2 g3 x6 = s2V (w1v c arg2 g2) (b1v c arg3 g3) (fval c XA) (segv c arg1 g1) 8 :=
    (View.readAt_full _ _ _).trans (s2_eq c XA arg1 g1 _ _ _ _ _ h17 h20 (xs_eq c XA _ _ x6) 8 (le_refl 8))
  unfold v39F rgV
  rw [h17, h20, h22, h31]
/-- and so are the rows. -/
theorem yF_eq (x6 : Buf (Elt F) (xsM.view.loc (c : Thread nD τ))) (b : Fin 8) :
    xblk3 c (yF c XA arg1 arg2 arg3 g1 g2 g3 x6) b = ybV (w1v c arg2 g2) (b1v c arg3 g3) (fval c XA) (segv c arg1 g1) b := by
  have h17 : v17F c arg1 g1 = cntV (segv c arg1 g1) 8 := (View.readAt_full _ _ _).trans (cnt_eq c arg1 g1 8)
  have h20 : v20F c XA arg1 arg2 arg3 g1 g2 g3 = sumV (w1v c arg2 g2) (b1v c arg3 g3) (fval c XA) (segv c arg1 g1) :=
    funext fun i => congrFun (ss_eq c XA arg1 g1 (w1v c arg2 g2) (b1v c arg3 g3) 8) _
  refine (y_eq c arg1 g1 _ _ _ b).trans ?_
  show k0_pay16 _ _ _ (xblk c (xsAt c XA (w1v c arg2 g2) (b1v c arg3 g3) x6 8) b) = _
  rw [h17, h20, xs_eq]; rfl

/-- The result, of the buffers the body is handed. -/
def outG : Buf (Elt F) (outM.view.loc (c : Thread nD τ)) := outV (w1v c arg2 g2) (b1v c arg3 g3) (fval c XA) (segv c arg1 g1) (v34F c arg4 g4)

/-- What the body holds at its ends beside its inputs' buffers: the features home but for block 0, slots and cells at rest. -/
abbrev restP : sProp 𝕄 :=
  iprop((∃ f, xsP c f) ∗ (∃ f, ssP c f) ∗ (∃ f, cntP c f) ∗ (∃ f, s2P c f)
      ∗ (∃ f, rslotP c 0 f) ∗ (∃ f, rslotP c 1 f) ∗ rcellP c 0 ∗ rcellP c 1
      ∗ (∃ f, wslotP c 0 f) ∗ (∃ f, wslotP c 1 f) ∗ wcellP c 0 ∗ wcellP c 1)

/-- Before the first trip of the read loop, block 0 apart from the rest. -/
theorem homes_zero : bigSep Finset.univ (homeP c XA : Fin 8 → sProp 𝕄) = iprop(homeP c XA 0 ∗ bigSep (Ring.homeSet (NB := 8) 1 0) (homeP c XA)) := by
  conv_lhs => rw [show (Finset.univ : Finset (Fin 8)) = insert 0 (Ring.homeSet (NB := 8) 1 0) by decide, bigSep_insert (by decide)]
  rfl

attribute [local sl_canon] sl2_0 sl2_1 bk8_0 in
/-- The body: it hands its inputs back as they were and leaves the result. -/
theorem bodyRun (W) (Q : PUnit → sProp 𝕄) :
    iprop((segP c arg1 g1 ∗ wP c arg2 g2 ∗ bP c arg3 g3 ∗ tP c arg4 g4 ∗ bigSep Finset.univ (homeP c XA) ∗ bigSep Finset.univ (oblkP c O)
        ∗ restP c ∗ owes (c : Thread nD τ) 0 W)
      ∗ ((segP c arg1 g1 ∗ wP c arg2 g2 ∗ bP c arg3 g3 ∗ tP c arg4 g4 ∗ bigSep Finset.univ (homeP c XA)
        ∗ bigSep Finset.univ (oblkP c (outG c XA arg1 arg2 arg3 arg4 g1 g2 g3 g4)) ∗ restP c ∗ ∃ W, owes (c : Thread nD τ) 0 W) -∗ Q ⟨⟩))
      ⊢ wp frame (wpE (defs₀ (F := F)) 𝒱₀ (c : Thread nD τ) none) Set.univ (bodyG arg1 harg1 arg2 harg2 arg3 harg3 arg4 harg4) Q := by
  rw [homes_zero]
  iintro ⟨⟨H1, H2, H3, H4, ⟨HH0, HH⟩, HA, ⟨⟨%x6, H6⟩, ⟨%x7, H7⟩, ⟨%x8, H8⟩, ⟨%x9, H9⟩, ⟨%f0, Hr0⟩, ⟨%f1, Hr1⟩, Hc0, Hc1, ⟨%f2, Hw0⟩, ⟨%f3, Hw1⟩, Hd0, Hd1⟩, HW⟩, Hk⟩
  sl_exec
  sl_for (inv1 c XA arg1 g1 (w1v c arg2 g2) (b1v c arg3 g3) x6 (ss0 c) (cnt0 c)) $$ [H1 H6 H7 H8 HH Hr1 Hc1 HW Hc0]
  case region =>
    intro k acc
    exact trip1_run c XA arg1 harg1 arg2 harg2 arg3 harg3 arg4 harg4 g1 _ _ _ _ _ k _ _ _ acc
  · irw [inv1_start]
    isplitr; · ipureintro; decide
    isplitl [H1]; · iexact H1
    isplitl [H6]; · iexact H6
    isplitl [H7]; · iexact H7
    isplitl [H8]; · iexact H8
    isplitl [HW]; · iexists _; iexact HW
    isplitl [HH]; · iexact HH
    isplitl [Hc0]; · iexists f0; iexact Hc0
    isplitl [Hr1]; · iexists f1; iexact Hr1
    iexact Hc1
  irw [show Scf.trips k0_t1_loop.lb k0_t1_loop.ub k0_t1_loop.st = 8 from rfl]
  simp only [inv1_done]
  iintro %acc ⟨%ea, H1, H6, H7, H8, ⟨%W1, HW⟩, HH, ⟨⟨%f4, Hr0⟩, Hc0⟩, ⟨%f5, Hr1⟩, Hc1⟩
  subst ea
  sl_exec
  have e39 : bodyRun.sl.r_2 c XA arg1 arg2 arg3 arg4 g1 g2 g3 g4 x6 = v39F c XA arg1 arg2 arg3 arg4 g1 g2 g3 g4 x6 := rfl
  irw [show bodyRun.sl.r_2 c XA arg1 arg2 arg3 arg4 g1 g2 g3 g4 x6 = v39F c XA arg1 arg2 arg3 arg4 g1 g2 g3 g4 x6 from rfl]
  sl_for (inv3 c arg1 g1 (v39F c XA arg1 arg2 arg3 arg4 g1 g2 g3 g4 x6) (yF c XA arg1 arg2 arg3 g1 g2 g3 x6) O) $$ [H1 H6 HA Hw0 Hw1 Hd0 Hd1 HW]
  case region =>
    intro k acc
    exact trip3_run c arg1 harg1 arg2 harg2 arg3 harg3 arg4 harg4 g1 _ _ _ _ _ k acc
  · irw [inv3_start]
    isplitr; · ipureintro; decide
    isplitl [H1]; · iexact H1
    isplitl [H6]; · iexact H6
    isplitl [HW]; · iexists _; iexact HW
    isplitl [HA]; · iexact HA
    isplitr; · iempintro
    isplitl [Hw0]; · iexists f2; iexact Hw0
    isplitl [Hd0]; · iexact Hd0
    isplitl [Hw1]; · iexists f3; iexact Hw1
    iexact Hd1
  irw [show Scf.trips k0_t3_loop.lb k0_t3_loop.ub k0_t3_loop.st = 8 from rfl]
  simp only [inv3_done]
  iintro %acc ⟨%ea, H1, H6, ⟨%W2, HW⟩, -, HB, ⟨%f6, Hw0⟩, Hd0, ⟨%f7, Hd1⟩⟩
  subst ea
  have hc6 : k0_chk6 (wrapW 8) := chk6_ok
  have hc5 : k0_chk5 (doneW 8) := chk5_ok
  sl_exec
  sl_step
  iapply Hk
  irw [← homes_zero]
  isplitl [H1]; · iexact H1
  isplitl [H2]; · iexact H2
  isplitl [H3]; · iexact H3
  isplitl [H4]; · iexact H4
  isplitl [HH]; · iexact HH
  isplitl [HB Hd1_dst]
  · irw [show outG c XA arg1 arg2 arg3 arg4 g1 g2 g3 g4 = outAll c arg1 g1 (v39F c XA arg1 arg2 arg3 arg4 g1 g2 g3 g4 x6) (yF c XA arg1 arg2 arg3 g1 g2 g3 x6)
      from (out_eq c XA arg1 g1 _ _ _ _ _ (v39_eq c XA arg1 arg2 arg3 arg4 g1 g2 g3 g4 x6) (yF_eq c XA arg1 arg2 arg3 g1 g2 g3 x6)).symm, all_behind]
    isplitl [Hd1_dst]
    · irw [← oblk_done c arg1 g1 _ _ 7 O]; iexact Hd1_dst
    iexact HB
  isplitr [HW]
  · isplitl [H6]; · iexists _; iexact H6
    isplitl [H7]; · iexists _; iexact H7
    isplitl [H8]; · iexists _; iexact H8
    isplitl [H9]; · iexists _; iexact H9
    isplitl [Hr0]; · iexists _; iexact Hr0
    isplitl [Hr1]; · iexists _; iexact Hr1
    isplitl [Hc0]; · iexact Hc0
    isplitl [Hc1]; · iexact Hc1
    isplitl [Hw0]; · iexists _; iexact Hw0
    isplitl [Hd1_src]; · iexists _; iexact Hd1_src
    isplitl [Hd0]; · iexact Hd0
    iexact Hd1
  iexists _; iexact HW
end Body
end Cert.KernelIdeal.Hand
-- ==== Proof.Run.lean ====
/-
  The launch: the kernel's body inside the program, and the run of the program to its end — the result named, the
  arguments unchanged, every counter back at zero.
-/
module

public import proofs.«01_k».proof.Proof.Body
public import proofs.«01_k».proof.Proof.Gen.KernelIdeal.Frame
public import Idealize.ShloMosaic.Lib.Pipeline.Routed

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UU nD τ) ℕ

/-! ## Whole buffers as their blocks and slots -/

/-- The elements of block `b` of an array of rows, and of slot `s` of a buffer of two slots. -/
abbrev B8 (b : Fin 8) : Finset S131072x128.Idx := (blkRect b).set
abbrev S2s (s : Fin 2) : Finset S2x16384x128.Idx := (slotRect s).set

theorem fblk_set (b : Fin 8) : (fblk b).view.set = B8 b := View.set_slice_whole _ _
theorem oblk_set (b : Fin 8) : (oblk b).view.set = B8 b := View.set_slice_whole _ _
theorem rslot_set (s : Fin 2) : (rslot s).view.set = S2s s := (View.set_reshape _ _).trans (View.set_slice_whole _ _)
theorem wslot_set (s : Fin 2) : (wslot s).view.set = S2s s := (View.set_reshape _ _).trans (View.set_slice_whole _ _)

/-- An element is in the block its row falls in, -/
theorem mem_B8 (b : Fin 8) (y : S131072x128.Idx) : y ∈ B8 b ↔ (y 0).val / 16384 = b.val := by
  rw [Rect.mem_set_unit]
  have h1 : (y 1).val < 128 := (y 1).isLt
  constructor
  · intro H; have a0 : 16384 * b.val ≤ (y 0).val ∧ (y 0).val < 16384 * b.val + 16384 := H 0; omega
  · intro H i; fin_cases i
    · show 16384 * b.val ≤ (y 0).val ∧ (y 0).val < 16384 * b.val + 16384; omega
    · show 0 ≤ (y 1).val ∧ (y 1).val < 0 + 128; omega
/-- and in the slot of its first coordinate. -/
theorem mem_S2s (s : Fin 2) (y : S2x16384x128.Idx) : y ∈ S2s s ↔ (y 0).val = s.val := by
  rw [Rect.mem_set_unit]
  have h1 : (y 1).val < 16384 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 16384; omega
    · show 0 ≤ (y 2).val ∧ (y 2).val < 0 + 128; omega

theorem B8_disjoint : ∀ b b' : Fin 8, b ≠ b' → Disjoint (B8 b) (B8 b') := by
  intro b b' hne; rw [Finset.disjoint_left]; intro y hy hy'; rw [mem_B8] at hy hy'; exact hne (Fin.ext (hy.symm.trans hy'))
theorem B8_cover : (Finset.univ : Finset (Fin 8)).biUnion B8 = Finset.univ := by
  ext y; simp only [Finset.mem_biUnion, Finset.mem_univ, true_and, iff_true]
  have : (y 0).val < 131072 := (y 0).isLt
  exact ⟨⟨(y 0).val / 16384, by omega⟩, by rw [mem_B8]⟩
theorem S2s_disjoint : ∀ s s' : Fin 2, s ≠ s' → Disjoint (S2s s) (S2s s') := by
  intro s s' hne; rw [Finset.disjoint_left]; intro y hy hy'; rw [mem_S2s] at hy hy'; exact hne (Fin.ext (hy.symm.trans hy'))
theorem S2s_cover : (Finset.univ : Finset (Fin 2)).biUnion S2s = Finset.univ := by
  ext y; simp only [Finset.mem_biUnion, Finset.mem_univ, true_and, iff_true]; exact ⟨(y 0).cast (by decide), by rw [mem_S2s]; rfl⟩

theorem bigSep_two (Φ : Fin 2 → sProp 𝕄) : bigSep Finset.univ Φ = iprop(Φ 0 ∗ Φ 1) :=
  bigSep_univ_eq_bigSepL [(0 : Fin 2), (1 : Fin 2)] (by decide) (by decide) Φ

/-- The features whole are their eight blocks; -/
theorem feat_eq (c : Dev nD) (f : Buf (Elt F) ((c : Thread nD τ).loc main_arg0)) :
    (((c : Thread nD τ).loc main_arg0) ↦{fullShare} f : sProp 𝕄) = bigSep Finset.univ (homeP c f) := by
  rw [Ring.pointsTo_blocks (ℓ := (c : Thread nD τ).loc main_arg0) B8 B8_disjoint B8_cover]
  exact bigSep_congr fun b _ => by rw [← fblk_set]; rfl
/-- the result whole is its eight blocks. -/
theorem res_eq (c : Dev nD) (f : Buf (Elt F) ((c : Thread nD τ).loc main_v34)) :
    (((c : Thread nD τ).loc main_v34) ↦{fullShare} f : sProp 𝕄) = bigSep Finset.univ (oblkP c f) := by
  rw [Ring.pointsTo_blocks (ℓ := (c : Thread nD τ).loc main_v34) B8 B8_disjoint B8_cover]
  exact bigSep_congr fun b _ => by rw [← oblk_set]; rfl

theorem rslotP_eq (c : Dev nD) (s : Fin 2) (f) : rslotP c s f = (((c : Thread nD τ).loc cc0_scoped0) ↦[S2s s]{fullShare} f : sProp 𝕄) :=
  congrArg (fun S => (_ ↦[S]{fullShare} f : sProp 𝕄)) (rslot_set s)
theorem wslotP_eq (c : Dev nD) (s : Fin 2) (f) : wslotP c s f = (((c : Thread nD τ).loc cc0_scoped2) ↦[S2s s]{fullShare} f : sProp 𝕄) :=
  congrArg (fun S => (_ ↦[S]{fullShare} f : sProp 𝕄)) (wslot_set s)

/-- A buffer of two slots, whole, is its slots. -/
theorem two_split (c : Dev nD) (r : Ref sig .tc) (S : Fin 2 → Finset (((c : Thread nD τ).loc r).2.ty.shape.Idx))
    (hd : ∀ s s', s ≠ s' → Disjoint (S s) (S s')) (hc : (Finset.univ : Finset (Fin 2)).biUnion S = Finset.univ) :
    iprop(∃ f : Buf (Elt F) ((c : Thread nD τ).loc r), ((c : Thread nD τ).loc r) ↦{fullShare} f)
      ⊢ (iprop((∃ f, ((c : Thread nD τ).loc r) ↦[S 0]{fullShare} f) ∗ ∃ f, ((c : Thread nD τ).loc r) ↦[S 1]{fullShare} f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc r) S hd hc f).trans (bigSep_two _))) $$ H
  icases H2 with ⟨H0, H1⟩
  isplitl [H0]
  · iexists f; iexact H0
  · iexists f; iexact H1
theorem two_join (c : Dev nD) (r : Ref sig .tc) (S : Fin 2 → Finset (((c : Thread nD τ).loc r).2.ty.shape.Idx))
    (hd : ∀ s s', s ≠ s' → Disjoint (S s) (S s')) (hc : (Finset.univ : Finset (Fin 2)).biUnion S = Finset.univ) :
    (iprop((∃ f, ((c : Thread nD τ).loc r) ↦[S 0]{fullShare} f) ∗ ∃ f, ((c : Thread nD τ).loc r) ↦[S 1]{fullShare} f) : sProp 𝕄)
      ⊢ iprop(∃ f : Buf (Elt F) ((c : Thread nD τ).loc r), ((c : Thread nD τ).loc r) ↦{fullShare} f) := by
  iintro ⟨⟨%f0, H0⟩, ⟨%f1, H1⟩⟩
  iapply (Ring.pointsTo_blocks_join_exists (ℓ := (c : Thread nD τ).loc r) S hd hc f0)
  irw [bigSep_two]
  isplitl [H0]
  · iexists f0; iexact H0
  · iexists f1; iexact H1

/-! ## What the region is entered and left with -/

/-- The kernel's own semaphores: the cells of its two buffers' slots. -/
abbrev osem : Fin 4 → SemLoc sig := ![.dma (rcell 0).sem, .dma (rcell 1).sem, .dma (wcell 0).sem, .dma (wcell 1).sem]
theorem ownSemFacts : Pipeline.OwnSemFacts spec0 osem := by decide

theorem ownSems_eq (c : Dev nD) : (Pipeline.ownSems0 (Ix := Unit) (Name := ℕ) (U := UU nD τ) (Lvl := ℕ) (Val := Elt F) (τ := τ) osem c : sProp 𝕄)
    = iprop(rcellP c 0 ∗ rcellP c 1 ∗ wcellP c 0 ∗ wcellP c 1) :=
  Pipeline.ownSems0_eq_of_list c osem [0, 1, 2, 3] (by decide) (by decide)

/-- The two arrays the kernel moves itself. -/
abbrev R2 : Finset (Ref sig .tc) := {main_arg0, main_v34}

theorem routed_eq (c : Dev nD) (W : (b : Ref sig .tc) → Buf (Elt F) ((c : Thread nD τ).loc b)) :
    (Pipeline.routed R2 c W : sProp 𝕄) = iprop(bigSep Finset.univ (homeP c (W main_arg0)) ∗ bigSep Finset.univ (oblkP c (W main_v34))) := by
  rw [← feat_eq, ← res_eq]
  exact bigSep_eq_bigSepL_of_eq (M := 𝕄) (S := R2) [main_arg0, main_v34] (by decide) (by decide) _

/-- A buffer held whole is held through its own memref. -/
theorem whole_in (c : Dev nD) (r : Ref sig .tc) :
    (iprop(∃ f : Buf (Elt F) ((c : Thread nD τ).loc r), ((c : Thread nD τ).loc r) ↦{fullShare} f) : sProp 𝕄)
      ⊢ iprop(∃ f, ((c : Thread nD τ).loc (Memref.whole r).view.ref) ↦[(Memref.whole r).view.set]{fullShare} f) := by
  iintro ⟨%f, H⟩
  iexists f
  iapply (Entails.of_eq (congrArg (fun S => (((c : Thread nD τ).loc r) ↦[S]{fullShare} f : sProp 𝕄)) (View.set_whole r).symm))
  iexact H

/-- What the region is entered with, in pieces; -/
theorem ends_in (c : Dev nD) (W : (b : Ref sig .tc) → Buf (Elt F) ((c : Thread nD τ).loc b)) :
    (Pipeline.Ends spec0 osem R2 c W : sProp 𝕄)
      ⊢ iprop(bigSep Finset.univ (homeP c (W main_arg0)) ∗ bigSep Finset.univ (oblkP c (W main_v34)) ∗ restP c ∗ ∃ r, prngReg c r) := by
  unfold Pipeline.Ends
  rw [routed_eq, ownSems_eq, scopedRest0_eq]
  iintro ⟨⟨HF, HO⟩, ⟨Hc0, Hc1, Hd0, Hd1⟩, ⟨H6, H7, H8, H9, Hr, Hw⟩, Hp⟩
  ihave Hr2 := (two_split c cc0_scoped0 S2s S2s_disjoint S2s_cover) $$ Hr
  ihave Hw2 := (two_split c cc0_scoped2 S2s S2s_disjoint S2s_cover) $$ Hw
  icases Hr2 with ⟨⟨%f0, Hr0⟩, ⟨%f1, Hr1⟩⟩
  icases Hw2 with ⟨⟨%f2, Hw0⟩, ⟨%f3, Hw1⟩⟩
  isplitl [HF]; · iexact HF
  isplitl [HO]; · iexact HO
  isplitr [Hp]
  · isplitl [H6]; · iapply (whole_in c _); iexact H6
    isplitl [H7]; · iapply (whole_in c _); iexact H7
    isplitl [H8]; · iapply (whole_in c _); iexact H8
    isplitl [H9]; · iapply (whole_in c _); iexact H9
    isplitl [Hr0]; · iexists f0; iapply (Entails.of_eq (rslotP_eq c 0 f0).symm); iexact Hr0
    isplitl [Hr1]; · iexists f1; iapply (Entails.of_eq (rslotP_eq c 1 f1).symm); iexact Hr1
    isplitl [Hc0]; · iexact Hc0
    isplitl [Hc1]; · iexact Hc1
    isplitl [Hw0]; · iexists f2; iapply (Entails.of_eq (wslotP_eq c 0 f2).symm); iexact Hw0
    isplitl [Hw1]; · iexists f3; iapply (Entails.of_eq (wslotP_eq c 1 f3).symm); iexact Hw1
    isplitl [Hd0]; · iexact Hd0
    iexact Hd1
  iexact Hp
/-- and what it is left with, put together. -/
theorem ends_out (c : Dev nD) (W : (b : Ref sig .tc) → Buf (Elt F) ((c : Thread nD τ).loc b)) :
    (iprop(bigSep Finset.univ (homeP c (W main_arg0)) ∗ bigSep Finset.univ (oblkP c (W main_v34)) ∗ restP c ∗ ∃ r, prngReg c r) : sProp 𝕄)
      ⊢ Pipeline.Ends spec0 osem R2 c W := by
  unfold Pipeline.Ends
  rw [routed_eq, ownSems_eq, scopedRest0_eq]
  iintro ⟨HF, HO, ⟨⟨%x6, H6⟩, ⟨%x7, H7⟩, ⟨%x8, H8⟩, ⟨%x9, H9⟩, ⟨%f0, Hr0⟩, ⟨%f1, Hr1⟩, Hc0, Hc1, ⟨%f2, Hw0⟩, ⟨%f3, Hw1⟩, Hd0, Hd1⟩, Hp⟩
  isplitl [HF HO]
  · isplitl [HF]; · iexact HF
    iexact HO
  isplitl [Hc0 Hc1 Hd0 Hd1]
  · isplitl [Hc0]; · iexact Hc0
    isplitl [Hc1]; · iexact Hc1
    isplitl [Hd0]; · iexact Hd0
    iexact Hd1
  isplitr [Hp]
  · isplitl [H6]; · iexists x6; irw [← View.set_whole cc0_scratch0]; iexact H6
    isplitl [H7]; · iexists x7; irw [← View.set_whole cc0_scratch1]; iexact H7
    isplitl [H8]; · iexists x8; irw [← View.set_whole cc0_scratch2]; iexact H8
    isplitl [H9]; · iexists x9; irw [← View.set_whole cc0_scratch3]; iexact H9
    isplitl [Hr0 Hr1]
    · iapply (two_join c cc0_scoped0 S2s S2s_disjoint S2s_cover)
      isplitl [Hr0]; · iexists f0; irw [← rslotP_eq]; iexact Hr0
      iexists f1; irw [← rslotP_eq]; iexact Hr1
    iapply (two_join c cc0_scoped2 S2s S2s_disjoint S2s_cover)
    isplitl [Hw0]; · iexists f2; irw [← wslotP_eq]; iexact Hw0
    iexists f3; irw [← wslotP_eq]; iexact Hw1
  iexact Hp

/-! ## The body inside the program -/

section Launch
variable (m : (ℓ : Loc nD τ sig) → Buf (Elt F) ℓ) (ρ : Dev nD → PrngReg)

/-- The result, of the memory at launch. -/
def resultOf (c : Dev nD) : Buf (Elt F) ((c : Thread nD τ).loc main_v34) :=
  outG c (V m c main_arg0) (st0_0 t0_0) (st0_1 t0_0) (st0_2 t0_0) (st0_3 t0_0)
    ((st0_0 t0_0).view.rep (iblk m c 0 t0_0)) ((st0_1 t0_0).view.rep (iblk m c 1 t0_0)) ((st0_2 t0_0).view.rep (iblk m c 2 t0_0)) ((st0_3 t0_0).view.rep (iblk m c 3 t0_0))
/-- The core's buffers at the region's end. -/
def Y (c : Dev nD) : (b : Ref sig .tc) → Buf (Elt F) ((c : Thread nD τ).loc b) := Function.update (V m c) main_v34 (resultOf m c)

theorem Y_arg0 (c : Dev nD) : Y m c main_arg0 = V m c main_arg0 := Function.update_of_ne (by decide) _ _
theorem Y_v34 (c : Dev nD) : Y m c main_v34 = resultOf m c := Function.update_self _ _ _

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ j := Pipeline.Ends spec0 osem R2 c (if j.val = 0 then V m c else Y m c)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]

/-- The table's entry for the kernel is its body on the staging buffers. -/
theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) :=
  (congrFun defs_tc _).trans rfl

set_option backward.isDefEq.respectTransparency.types false in
set_option maxHeartbeats 1600000 in
/-- The body meets the pipeline's demand at the grid's one point. -/
theorem body_obligation (c : Dev nD) : BodyObligation (dats (F := F) m 0 c) (defs₀ (F := F)) 𝒱₀ () Set.univ := fun t => by
  have et : t = t0_0 := fin_N0 t
  subst et
  rw [bigSep_W0, bigSep_W0]
  dsimp only
  simp only [before_w0, before_w1, before_w2, before_w3, after_w0, after_w1, after_w2, after_w3]
  rw [show (dats m 0 c).Φ (Fin.castSucc t0_0) = Pipeline.Ends spec0 osem R2 c (V m c) from rfl,
    show (dats m 0 c).Φ (Fin.succ t0_0) = Pipeline.Ends spec0 osem R2 c (Y m c) from rfl]
  unfold Dat.owesAt Pipeline.owesWithin
  rw [show (dats m 0 c).owed (Fin.castSucc t0_0) = 0 from rfl, show (dats m 0 c).owed (Fin.succ t0_0) = 0 from rfl]
  unfold owns
  iintro ⟨HE, ⟨%W, -, HW⟩, ⟨%d0, %g0, %hg0, H1⟩, ⟨%d1, %g1, %hg1, H2⟩, ⟨%d2, %g2, %hg2, H3⟩, ⟨%d3, %g3, %hg3, H4⟩⟩
  ihave HE' := (ends_in c (V m c)) $$ HE
  icases HE' with ⟨HF, HO, HR, Hp⟩
  ihave H1' := (pointsTo_rep_entails (c : Thread nD τ) (st0_0 t0_0) g0 fullShare) $$ H1
  ihave H2' := (pointsTo_rep_entails (c : Thread nD τ) (st0_1 t0_0) g1 fullShare) $$ H2
  ihave H3' := (pointsTo_rep_entails (c : Thread nD τ) (st0_2 t0_0) g2 fullShare) $$ H3
  ihave H4' := (pointsTo_rep_entails (c : Thread nD τ) (st0_3 t0_0) g3 fullShare) $$ H4
  rw [hg0, hg1, hg2, hg3]
  sl_rw [prog_eq t0_0]
  iapply (bodyRun c (V m c main_arg0) (st0_0 t0_0) (hstage0_0 0) (st0_1 t0_0) (hstage0_1 0) (st0_2 t0_0) (hstage0_2 0) (st0_3 t0_0) (hstage0_3 0)
    ((st0_0 t0_0).view.rep (iblk m c 0 t0_0)) ((st0_1 t0_0).view.rep (iblk m c 1 t0_0)) ((st0_2 t0_0).view.rep (iblk m c 2 t0_0)) ((st0_3 t0_0).view.rep (iblk m c 3 t0_0)) (V m c main_v34) W)
  isplitl [H1' H2' H3' H4' HF HO HR HW]
  · isplitl [H1']; · iexact H1'
    isplitl [H2']; · iexact H2'
    isplitl [H3']; · iexact H3'
    isplitl [H4']; · iexact H4'
    isplitl [HF]; · iexact HF
    isplitl [HO]; · iexact HO
    isplitl [HR]; · iexact HR
    iexact HW
  · iintro ⟨H1, H2, H3, H4, HF, HO, HR, ⟨%W', HW⟩⟩
    isplitl [HF HO HR Hp]
    · iapply (ends_out c (Y m c))
      irw [Y_arg0, Y_v34]
      isplitl [HF]; · iexact HF
      isplitl [HO]; · iexact HO
      isplitl [HR]; · iexact HR
      iexact Hp
    isplitl [HW]
    · iexists W'; isplitr; · ipureintro; exact fun _ _ => Or.inl trivial
      iexact HW
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    iexists _; isplitr; · ipureintro; exact View.read_rep _ _
    iexact H4

/-- What the program's end is known by: the result, the arguments, the counters. -/
def Final (r : PUnit × MemSt nD τ sig (Elt F)) : Prop :=
  (∀ c : Dev nD, r.2.mem ((c : Thread nD τ).loc main_v34) = resultOf m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) ∧ r.2.sem = fun _ => 0

set_option backward.isDefEq.respectTransparency.types false in
/-- The program run from any memory with its counters at zero: it ends, as `Final` says. -/
theorem run_final : θ_run defs (onTc (τ := τ) (main (F := F))) (s₀ m ρ) (Final m) :=
  Pipeline.θ_run_frame_routed cfgs (dats m) (0 : Fin 1) launch0 ownSemFacts defs₀ 𝒱₀ m ρ main
    (hbody := fun c => (body_obligation m c).loose) (hshare := fun c => (dats m 0 c).share_full fun _ => rfl)
    (howed := fun _ _ => rfl) (V := V m)
    (hmain := Pipeline.hmain_prefix cfgs 0 defs₀ 𝒱₀ m main hostOps0 hostOps0_sub hostOps0_fresh main_chain)
    (hA := fun _ _ => rfl) (R := R2) (hR := by decide) (Y := Y m)
    (hin := fun c => Entails.rfl)
    (hout := fun c => Entails.rfl)
    (Q' := Final m)
    (hQ' := fun r h => ⟨fun c => by
      obtain ⟨hw, hr, hrest⟩ := h.1 c
      refine ⟨(hr main_v34 (by decide)).trans (Y_v34 m c), (hr main_arg0 (by decide)).trans ((Y_arg0 m c).trans (V_main_arg0 m c)),
        (hrest main_arg1 (by decide)).trans (V_main_arg1 m c),
        (hw 1).trans (((dats m 0 c).arrAt_in 1 rfl _).trans (V_main_arg2 m c)),
        (hrest main_arg3 (by decide)).trans (V_main_arg3 m c),
        (hrest main_arg4 (by decide)).trans (V_main_arg4 m c)⟩, h.2⟩)
end Launch
end Cert.KernelIdeal.Hand
-- ==== Proof.Transfer.lean ====
/-
  The printed kernel and the kernel printed for the ideal instance are the same program, so the one run serves both.
-/
module

public import proofs.«01_k».proof.Proof.Run
public import proofs.«01_k».proof.Proof.Gen.Kernel

@[expose] public section

set_option maxRecDepth 65536

noncomputable section

namespace Cert.Same

open Idealize.ShloMosaic Idealize.SL.Sem
open Idealize.ShloMosaic.TcCoe

variable {F : FTy → Type} [FloatOps F]

/-- The two programs have the same memories, -/
theorem sig_eq : Cert.Kernel.sig = Cert.KernelIdeal.sig := rfl
/-- the same body for their call, -/
theorem call_eq : @Cert.Kernel.defs₀ F _ Cert.Kernel.Gen.facts = @Cert.KernelIdeal.defs₀ F _ Cert.KernelIdeal.Gen.facts :=
  congrArg Defs.onTc (funext fun l => match l with
    | 0 => rfl
    | ⟨n + 1, h⟩ => absurd h (by simp))
/-- the same call, -/
theorem defs_eq : @Cert.Kernel.defs F _ Cert.Kernel.Gen.facts = @Cert.KernelIdeal.defs F _ Cert.KernelIdeal.Gen.facts :=
  congrArg (Pipeline.defs Cert.KernelIdeal.pcfgs) call_eq
/-- and the same program on each core. -/
theorem main_eq (c : Dev Cert.KernelIdeal.nD) : @Cert.Kernel.main F _ Cert.Kernel.Gen.facts c = @Cert.KernelIdeal.main F _ Cert.KernelIdeal.Gen.facts c := rfl

/-- The printed kernel's run, by the other's. -/
theorem run_kernel (m : (ℓ : Loc Cert.KernelIdeal.nD Cert.KernelIdeal.τ Cert.KernelIdeal.sig) → Buf (Elt F) ℓ) (ρ : Dev Cert.KernelIdeal.nD → PrngReg) :
    θ_run (@Cert.Kernel.defs F _ Cert.Kernel.Gen.facts) (onTc (τ := Cert.Kernel.τ) (@Cert.Kernel.main F _ Cert.Kernel.Gen.facts)) ⟨m, fun _ => 0, ρ⟩
      (Cert.KernelIdeal.Hand.Final m) := by
  have h := Cert.KernelIdeal.Hand.run_final m ρ
  rw [← defs_eq] at h
  exact h

end Cert.Same
-- ==== Proof.Frames.lean ====
/-
  What every program here does whatever it computes: it ends without fault, its arguments unchanged, its counters at zero.
-/
module

public import proofs.«01_k».proof.Defs
public import proofs.«01_k».proof.Proof.Transfer
public import proofs.«01_k».proof.Proof.Gen.ReferenceIdeal.Run

@[expose] public section

set_option maxRecDepth 16384

noncomputable section

namespace Cert.Proof

open Idealize.ShloMosaic Idealize.SL.Sem

/-- The printed kernel, at the machine's floats. -/
theorem frame_kernel : Cert.quiescent_Kernel (hKernel := Cert.Kernel.Gen.facts) := fun m g _ =>
  (θ_run _ _ _).mono (fun _ h => ⟨fun c => (h.1 c).2, h.2⟩) (Cert.Same.run_kernel (F := Bits) m g)

/-- The kernel over the extended reals. -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Hand.run_final (F := Ideal) m g)

/-- The reference: plain host operations on one core, no semaphore declared. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

end Cert.Proof

end
-- ==== Proof.Spec.lean ====
/-
  The arithmetic alone: sums over the rows of a segment, the normalization they give, and the two equations between
  the kernel's order of it and the reference's.
-/
module

public import Idealize.ShloMosaic.PureOps.Ideal
public import Mathlib.Algebra.Order.BigOperators.Ring.Finset
public import Mathlib.Tactic.FieldSimp

@[expose] public section

noncomputable section

namespace Cert.Spec

open Idealize.ShloMosaic

/-! ## Sums over a segment -/

variable {ι γ : Type} [Fintype ι] [DecidableEq γ]

/-- The sum of `a` over the rows of segment `g`. -/
def gsum (s : ι → γ) (a : ι → EReal) (g : γ) : EReal := ∑ n, if s n = g then a n else 0
/-- The number of rows of segment `g`, at least one. -/
def count (s : ι → γ) (g : γ) : EReal := max (gsum s (fun _ => 1) g) 1
/-- The mean of a column over a segment, -/
def mean (s : ι → γ) (x : ι → EReal) (g : γ) : EReal := Ideal.div (gsum s x g) (count s g)
/-- its variance, -/
def var (s : ι → γ) (x : ι → EReal) (g : γ) : EReal :=
  Ideal.div (gsum s (fun n => x n * x n) g) (count s g) - mean s x g * mean s x g
/-- and the inverse of its deviation, `e` added to the variance. -/
def rstd (e : EReal) (s : ι → γ) (x : ι → EReal) (g : γ) : EReal := Ideal.rsqrt (var s x g + e)
/-- A row's entry centred and cut at zero. -/
def cut (s : ι → γ) (x : ι → EReal) (n : ι) : EReal := max (x n - mean s x (s n)) 0
/-- The segment's mean of the normalized entries, the deviation taken out of the sum. -/
def pooled (e : EReal) (s : ι → γ) (x : ι → EReal) (g : γ) : EReal :=
  Ideal.div (rstd e s x g * gsum s (cut s x) g) (count s g)

/-- A sum of reals is a real. -/
theorem coe_sum_real {κ : Type} (t : Finset κ) (f : κ → ℝ) : ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

/-- The sum over a segment of real entries is the real sum over its rows. -/
theorem gsum_real (s : ι → γ) (X : ι → ℝ) (g : γ) :
    gsum s (fun n => (X n : EReal)) g = ((∑ n ∈ Finset.univ.filter (fun n => s n = g), X n : ℝ) : EReal) := by
  rw [Finset.sum_filter, ← coe_sum_real]
  refine Finset.sum_congr rfl fun n _ => ?_
  split <;> simp

/-- The count is the real one. -/
theorem count_real (s : ι → γ) (g : γ) :
    count s g = ((max ((Finset.univ.filter (fun n => s n = g)).card : ℝ) 1 : ℝ) : EReal) := by
  have h := gsum_real s (fun _ => (1 : ℝ)) g
  have e : gsum s (fun _ => (1 : EReal)) g = gsum s (fun _ => ((1 : ℝ) : EReal)) g := rfl
  rw [count, e, h]
  rw [Finset.sum_const, nsmul_eq_mul, mul_one, EReal.coe_strictMono.monotone.map_max]
  rfl

/-- A real over a real that is not zero. -/
theorem div_real (a b : ℝ) (hb : b ≠ 0) : Ideal.div (a : EReal) (b : EReal) = ((a / b : ℝ) : EReal) := by
  have h : (b : EReal) ≠ 0 := by exact_mod_cast hb
  rw [Ideal.div, if_neg h, ← EReal.coe_inv, ← EReal.coe_mul, div_eq_mul_inv]

/-- The variance of real entries is a real that is not negative. -/
theorem var_real (s : ι → γ) (X : ι → ℝ) (g : γ) :
    ∃ v : ℝ, 0 ≤ v ∧ var s (fun n => (X n : EReal)) g = (v : EReal) := by
  set t := Finset.univ.filter (fun n => s n = g) with ht
  set c : ℝ := max (t.card : ℝ) 1 with hc
  have h1 : (1 : ℝ) ≤ c := le_max_right _ _
  have h0 : (0 : ℝ) < c := lt_of_lt_of_le one_pos h1
  refine ⟨(∑ n ∈ t, X n * X n) / c - (∑ n ∈ t, X n) / c * ((∑ n ∈ t, X n) / c), ?_, ?_⟩
  · have hs : (∑ n ∈ t, X n) ^ 2 ≤ t.card * ∑ n ∈ t, X n ^ 2 := by
      simpa using Finset.sum_mul_sq_le_sq_mul_sq t (fun _ => (1 : ℝ)) X
    have hq : 0 ≤ ∑ n ∈ t, X n ^ 2 := Finset.sum_nonneg fun n _ => sq_nonneg _
    have hm : (∑ n ∈ t, X n) ^ 2 ≤ c * ∑ n ∈ t, X n ^ 2 := hs.trans (mul_le_mul_of_nonneg_right (le_max_left _ _) hq)
    have he : (∑ n ∈ t, X n * X n) = ∑ n ∈ t, X n ^ 2 := Finset.sum_congr rfl fun n _ => (sq (X n)).symm
    have hk : (∑ n ∈ t, X n * X n) / c - (∑ n ∈ t, X n) / c * ((∑ n ∈ t, X n) / c)
        = (c * (∑ n ∈ t, X n ^ 2) - (∑ n ∈ t, X n) ^ 2) / c ^ 2 := by
      rw [he]; field_simp
    rw [hk]
    exact div_nonneg (by linarith) (sq_nonneg _)
  · have hsq : gsum s (fun n => (X n : EReal) * (X n : EReal)) g = ((∑ n ∈ t, X n * X n : ℝ) : EReal) := by
      have := gsum_real s (fun n => X n * X n) g
      simpa only [EReal.coe_mul] using this
    rw [var, mean, hsq, gsum_real, count_real, div_real _ _ h0.ne', div_real _ _ h0.ne', ← EReal.coe_mul, ← EReal.coe_sub]

/-- The inverse of the deviation of real entries is not negative. -/
theorem rstd_nonneg (e : EReal) (he : ∃ r : ℝ, 0 ≤ r ∧ e = (r : EReal)) (s : ι → γ) (x : ι → EReal)
    (hx : ∃ X : ι → ℝ, ∀ n, x n = (X n : EReal)) (g : γ) : 0 ≤ rstd e s x g := by
  obtain ⟨r, hr, rfl⟩ := he
  obtain ⟨X, hX⟩ := hx
  obtain rfl : x = fun n => (X n : EReal) := funext hX
  obtain ⟨v, hv, h⟩ := var_real s X g
  rw [rstd, h, ← EReal.coe_add]
  show 0 ≤ (if v + r < 0 then (⊥ : EReal) else if v + r = 0 then ⊤ else ((Real.sqrt (v + r))⁻¹ : ℝ))
  rw [if_neg (by linarith)]
  split
  · exact le_top
  · exact_mod_cast inv_nonneg.2 (Real.sqrt_nonneg _)

/-- A factor that is not negative comes out of the cut at zero, -/
theorem max_mul_zero (a r : EReal) (hr : 0 ≤ r) : max (a * r) 0 = max a 0 * r := by
  rcases le_total a 0 with h | h
  · rw [max_eq_right (mul_nonpos_of_nonpos_of_nonneg h hr), max_eq_right h, zero_mul]
  · rw [max_eq_left (mul_nonneg h hr), max_eq_left h]

/-- and out of a sum over a segment of entries not negative. -/
theorem gsum_mul (s : ι → γ) (y : ι → EReal) (hy : ∀ n, 0 ≤ y n) (r : γ → EReal) (g : γ) :
    gsum s (fun n => y n * r (s n)) g = r g * gsum s y g := by
  classical
  have key : ∀ t : Finset ι, (∑ n ∈ t, if s n = g then y n * r (s n) else 0) = r g * ∑ n ∈ t, if s n = g then y n else 0 := by
    intro t
    induction t using Finset.induction_on with
    | empty => simp
    | insert a t ha ih =>
      have h1 : 0 ≤ (if s a = g then y a else 0) := by split; exacts [hy a, le_refl _]
      have h2 : 0 ≤ ∑ n ∈ t, if s n = g then y n else 0 := Finset.sum_nonneg fun n _ => by split; exacts [hy n, le_refl _]
      rw [Finset.sum_insert ha, Finset.sum_insert ha, EReal.left_distrib_of_nonneg h1 h2, ih]
      congr 1
      split
      · next h => rw [h, mul_comm]
      · rw [mul_zero]
  exact key Finset.univ

/-- The normalized entry, cut: the deviation may be multiplied in before the cut or after. -/
theorem norm_cut (e : EReal) (s : ι → γ) (x : ι → EReal) (h : ∀ g, 0 ≤ rstd e s x g) (n : ι) :
    max ((x n - mean s x (s n)) * rstd e s x (s n)) 0 = cut s x n * rstd e s x (s n) :=
  max_mul_zero _ _ (h _)

/-- The segment's mean of the normalized entries is the pooled one. -/
theorem pooled_eq (e : EReal) (s : ι → γ) (x : ι → EReal) (h : ∀ g, 0 ≤ rstd e s x g) (g : γ) :
    Ideal.div (gsum s (fun n => max ((x n - mean s x (s n)) * rstd e s x (s n)) 0) g) (count s g) = pooled e s x g := by
  have : (fun n => max ((x n - mean s x (s n)) * rstd e s x (s n)) 0) = fun n => cut s x n * rstd e s x (s n) := funext (norm_cut e s x h)
  rw [this, gsum_mul s (cut s x) (fun n => le_max_right _ _) (rstd e s x) g, pooled]

/-! ## The channels' convolution -/

/-- Three neighbours of channel `c`, the missing ones zero. -/
def conv (w : Fin 3 → EReal) (p : Fin 128 → EReal) (c : Fin 128) : EReal :=
  (if h : 0 < c.val then p ⟨c.val - 1, by omega⟩ else 0) * w 0 + p c * w 1
    + (if h : c.val < 127 then p ⟨c.val + 1, by omega⟩ else 0) * w 2

/-- The banded matrix of the three weights. -/
def band (w : Fin 3 → EReal) (j c : Fin 128) : EReal :=
  w 0 * (if j.val + 1 = c.val then 1 else 0) + w 1 * (if j = c then 1 else 0) + w 2 * (if j.val = c.val + 1 then 1 else 0)

/-- A product by the banded matrix is the convolution. -/
theorem sum_band (w : Fin 3 → EReal) (p : Fin 128 → EReal) (c : Fin 128) : ∑ j, p j * band w j c = conv w p c := by
  have hb : ∀ j, p j * band w j c = ((if j.val + 1 = c.val then p j * w 0 else 0) + (if j = c then p j * w 1 else 0))
      + (if j.val = c.val + 1 then p j * w 2 else 0) := by
    intro j
    unfold band
    by_cases h1 : j.val + 1 = c.val
    · have h2 : ¬ j = c := fun e => by subst e; omega
      have h3 : ¬ j.val = c.val + 1 := by omega
      simp [h1, h2, h3]
    · by_cases h2 : j = c
      · subst h2
        simp
      · by_cases h3 : j.val = c.val + 1
        · have h4 : ¬ c.val + 1 + 1 = c.val := by omega
          simp [h2, h3, h4]
        · simp [h1, h2, h3]
  have one : ∀ (v : EReal) (P : Fin 128 → Prop) [DecidablePred P] (k : Fin 128), (∀ j, P j ↔ j = k) →
      (∑ j, if P j then p j * v else 0) = p k * v := by
    intro v P _ k hk
    rw [Finset.sum_eq_single k]
    · rw [if_pos ((hk k).2 rfl)]
    · intro j _ hj; rw [if_neg fun h => hj ((hk j).1 h)]
    · intro h; exact absurd (Finset.mem_univ k) h
  have none : ∀ (v : EReal) (P : Fin 128 → Prop) [DecidablePred P], (∀ j, ¬ P j) → (∑ j, if P j then p j * v else 0) = 0 := by
    intro v P _ h
    exact Finset.sum_eq_zero fun j _ => if_neg (h j)
  rw [Finset.sum_congr rfl fun j _ => hb j, Finset.sum_add_distrib, Finset.sum_add_distrib, conv]
  congr 1
  · congr 1
    · split
      · next h => exact one _ _ _ fun j => ⟨fun e => Fin.ext (by show j.val = c.val - 1; omega), fun e => by subst e; show c.val - 1 + 1 = c.val; omega⟩
      · next h => rw [zero_mul]; exact none _ _ fun j => by omega
    · exact one _ _ c fun j => Iff.rfl
  · split
    · next h => exact one _ _ _ fun j => ⟨fun e => Fin.ext e, fun e => by subst e; rfl⟩
    · next h => rw [zero_mul]; exact none _ _ fun j => by have := j.isLt; omega

/-! ## The whole -/

/-- The result's entry: `x c` the projected rows' column `c`. -/
def result (e : EReal) (w : Fin 3 → EReal) (s : ι → γ) (x : Fin 128 → ι → EReal) (n : ι) (c : Fin 128) : EReal :=
  cut s (x c) n * (rstd e s (x c) (s n) * Ideal.div 1 (1 + Ideal.exp (- conv w (fun j => pooled e s (x j) (s n)) c)))

end Cert.Spec
-- ==== Proof.KernelValue.lean ====
/-
  The kernel's closed forms at the extended reals: each sum over its eight blocks is the sum over all rows, each
  product with a one-hot matrix takes a segment's entry, and the result is the one the arithmetic module names.
-/
module

public import proofs.«01_k».proof.Proof.Values
public import proofs.«01_k».proof.Proof.Spec
public import Idealize.ShloMosaic.Lib.Pointwise
public import Mathlib.Logic.Equiv.Fin.Basic

@[expose] public section

set_option maxRecDepth 16384

noncomputable section

namespace Cert.KernelIdeal.Hand

open Cert.KernelIdeal Cert.KernelIdeal.Gen
open Idealize.ShloMosaic
open Cert.Spec

/-! ## Rows by block -/

/-- Row `r` of block `b`. -/
def row (b : Fin 8) (r : Fin 16384) : Fin 131072 := ⟨16384 * b.val + r.val, by omega⟩

/-- A sum over all rows, block by block. -/
theorem sum_rows (f : Fin 131072 → EReal) : ∑ n, f n = ∑ b, ∑ r, f (row b r) := by
  have e : ∀ p : Fin 8 × Fin 16384, (finProdFinEquiv (m := 8) (n := 16384) p : Fin (8 * 16384)) = (row p.1 p.2 : Fin 131072) := by
    intro p
    apply Fin.ext
    show p.2.val + 16384 * p.1.val = 16384 * p.1.val + p.2.val
    omega
  calc ∑ n, f n = ∑ p : Fin 8 × Fin 16384, f (finProdFinEquiv (m := 8) (n := 16384) p) :=
        (Equiv.sum_comp (finProdFinEquiv (m := 8) (n := 16384)) f).symm
    _ = ∑ p : Fin 8 × Fin 16384, f (row p.1 p.2) := Finset.sum_congr rfl fun p _ => congrArg f (e p)
    _ = _ := Fintype.sum_prod_type _

/-- An accumulator that starts at zero and takes one block a step ends at the sum over the blocks. -/
theorem acc_blocks (A : ℕ → EReal) (S : Fin 8 → EReal) (h0 : A 0 = 0) (hs : ∀ k, A (k + 1) = A k + S (Ring.bk 8 k)) : A 8 = ∑ b, S b := by
  have h : ∀ k ≤ 8, A k = ∑ i ∈ Finset.range k, S (Ring.bk 8 i) := by
    intro k
    induction k with
    | zero => intro _; rw [h0]; rfl
    | succ k ih => intro hk; rw [hs, ih (by omega), Finset.sum_range_succ]
  rw [h 8 (le_refl 8), ← Fin.sum_univ_eq_sum_range (fun i => S (Ring.bk 8 i)) 8]
  exact Finset.sum_congr rfl fun b _ => congrArg S (bk_self b)

/-- The one-hot entry, from a segment's word. -/
theorem one_hot (g s : Fin 64) (v : BitVec 32) (hv : v = BitVec.ofNat 32 s.val) :
    FloatOps.sitofp (F := Ideal) .f32 (BitVec.setWidth 32 (IntOp.cmpi .eq (BitVec.ofNat 32 g.val) v)) = (if s = g then 1 else 0 : EReal) := by
  subst hv
  have h : IntOp.cmpi .eq (BitVec.ofNat 32 g.val) (BitVec.ofNat 32 s.val) = BitVec.ofBool (decide (s = g)) := by
    show BitVec.ofBool (BitVec.ofNat 32 g.val == BitVec.ofNat 32 s.val) = _
    congr 1
    rw [Bool.eq_iff_iff, beq_iff_eq, decide_eq_true_iff]
    constructor
    · intro e
      have := congrArg BitVec.toNat e
      simp only [BitVec.toNat_ofNat] at this
      have h1 := g.isLt; have h2 := s.isLt
      exact Fin.ext (by omega)
    · rintro rfl; rfl
  rw [h]
  by_cases e : s = g
  · rw [if_pos e, decide_eq_true e]
    show (((BitVec.setWidth 32 (BitVec.ofBool true)).toInt : ℝ) : EReal) = 1
    have : (BitVec.setWidth 32 (BitVec.ofBool true)).toInt = 1 := by decide
    rw [this]; norm_num
  · rw [if_neg e, decide_eq_false e]
    show (((BitVec.setWidth 32 (BitVec.ofBool false)).toInt : ℝ) : EReal) = 0
    have : (BitVec.setWidth 32 (BitVec.ofBool false)).toInt = 0 := by decide
    rw [this]; norm_num

/-- A product with a one-hot row takes one entry. -/
theorem sum_pick (s : Fin 64) (v : Fin 64 → EReal) : ∑ g, (if s = g then 1 else 0 : EReal) * v g = v s := by
  rw [Finset.sum_eq_single s]
  · rw [if_pos rfl, one_mul]
  · intro g _ h; rw [if_neg (Ne.symm h), zero_mul]
  · intro h; exact absurd (Finset.mem_univ s) h

/-- What is added to the variance. -/
abbrev eps : EReal := Ideal.ofBits .f32 0x3727C5AC#32

section Values
variable (w1 : FVec Ideal S128x128 .bf16) (b1 : FVec Ideal S1x128 .bf16) (fe : Fin 8 → S1x16384x128.Idx → Elt Ideal .f32)
  (sg : Fin 8 → S1x1x16384.Idx → Elt Ideal .i32) (tw : Vec Ideal S128x128 .f32)
  (σ : Fin 131072 → Fin 64) (x : Fin 128 → Fin 131072 → EReal) (w : Fin 3 → EReal)
  (hσ : ∀ b r, sg b (ix3 0 0 r) = BitVec.ofNat 32 (σ (row b r)).val)
  (hx : ∀ b r c, (∑ k, fe b (ix3 0 r k) * w1 (ix2 k c)) + b1 (ix2 0 c) = x c (row b r))
  (hw : ∀ j c, tw (ix2 j c) = band w j c)

include hx in
/-- The projected rows' entry, before the store, -/
theorem pay1_apply (b : Fin 8) (r : Fin 16384) (c : Fin 128) : k0_pay1 w1 b1 (fe b) (ix2 r c) = x c (row b r) := by
  rw [← hx]
  pointwise [k0_pay1]
include hx in
/-- and as stored. -/
theorem xb_apply (b : Fin 8) (r : Fin 16384) (c : Fin 128) : xbV w1 b1 fe b (ix2 r c) = x c (row b r) := by
  rw [← pay1_apply w1 b1 fe x hx b r c]
  unfold xbV
  pointwise [k0_pay2]

/-- The sum over a segment, block by block. -/
theorem gsum_rows (a : Fin 131072 → EReal) (g : Fin 64) :
    gsum σ a g = ∑ b, ∑ r, (if σ (row b r) = g then 1 else 0 : EReal) * a (row b r) := by
  unfold gsum
  rw [sum_rows]
  refine Finset.sum_congr rfl fun b _ => Finset.sum_congr rfl fun r _ => ?_
  split
  · rw [one_mul]
  · rw [zero_mul]

include hσ in
/-- The counts. -/
theorem cnt_apply (g : Fin 64) (c : Fin 128) : cntV sg 8 (ix2 g c) = gsum σ (fun _ => 1) g := by
  rw [gsum_rows]
  refine acc_blocks (fun k => cntV sg k (ix2 g c)) (fun b => ∑ r, (if σ (row b r) = g then 1 else 0 : EReal) * 1) ?_ fun k => ?_
  · show k0_pay7 (F := Ideal) (ix2 g c) = 0
    pointwise [k0_pay7]
  · show k0_pay11 (cntV sg k) (k0_pay5 (sg (Ring.bk 8 k))) (ix2 g c) = _
    pointwise [k0_pay11, k0_pay5, k0_pay3]
    refine congrArg (_ + ·) (Finset.sum_congr rfl fun r _ => ?_)
    rw [one_hot g (σ (row (Ring.bk 8 k) r)) _ (hσ _ r)]

include hσ hx in
/-- The sums, left, and the sums of squares, right. -/
theorem ss_apply (g : Fin 64) (c : Fin 256) :
    ssV w1 b1 fe sg 8 (ix2 g c) = if h : c.val < 128 then gsum σ (x ⟨c.val, h⟩) g
      else gsum σ (fun n => x ⟨c.val - 128, by omega⟩ n * x ⟨c.val - 128, by omega⟩ n) g := by
  have key : ∀ a : Fin 131072 → EReal,
      (∀ b r, (if h : c.val < 128 then k0_pay1 w1 b1 (fe b) (ix2 r ⟨c.val, h⟩)
        else k0_pay1 w1 b1 (fe b) (ix2 r ⟨c.val - 128, by omega⟩) * k0_pay1 w1 b1 (fe b) (ix2 r ⟨c.val - 128, by omega⟩) : EReal) = a (row b r)) →
      ssV w1 b1 fe sg 8 (ix2 g c) = gsum σ a g := by
    intro a ha
    rw [gsum_rows]
    refine acc_blocks (fun k => ssV w1 b1 fe sg k (ix2 g c)) (fun b => ∑ r, (if σ (row b r) = g then 1 else 0 : EReal) * a (row b r)) ?_ fun k => ?_
    · show k0_pay6 (F := Ideal) (ix2 g c) = 0
      pointwise [k0_pay6]
    · show k0_pay4 w1 b1 (fe (Ring.bk 8 k)) (sg (Ring.bk 8 k)) (ssV w1 b1 fe sg k) (ix2 g c) = _
      pointwise [k0_pay4, k0_pay3]
      refine congrArg (_ + ·) (Finset.sum_congr rfl fun r _ => ?_)
      rw [one_hot g (σ (row (Ring.bk 8 k) r)) _ (hσ _ r), ← ha]
  split
  · next h =>
    refine key _ fun b r => ?_
    rw [dif_pos h, pay1_apply w1 b1 fe x hx]
  · next h =>
    refine key _ fun b r => ?_
    rw [dif_neg h, pay1_apply w1 b1 fe x hx]

include hσ hx in
/-- The sums. -/
theorem sum_apply (g : Fin 64) (c : Fin 128) : sumV w1 b1 fe sg (ix2 g c) = gsum σ (x c) g := by
  have e : ((Rect.unit (s := S64x256) ![0, 0] S64x128.size inb_S64x256_S64x128_0_0).emb (ix2 g c) : S64x256.Idx) = ix2 g (⟨c.val, by omega⟩ : Fin 256) := by
    funext a
    apply Fin.ext
    rw [ValueKit.rect_emb_unit_val]
    match a with
    | ⟨0, _⟩ => exact Nat.zero_add _
    | ⟨1, _⟩ => exact Nat.zero_add _
  unfold sumV
  rw [e, ss_apply w1 b1 fe sg σ x hσ hx, dif_pos c.isLt]
include hσ hx in
/-- The sums of squares. -/
theorem sq_apply (g : Fin 64) (c : Fin 128) : sqV w1 b1 fe sg (ix2 g c) = gsum σ (fun n => x c n * x c n) g := by
  have e : ((Rect.unit (s := S64x256) ![0, 128] S64x128.size inb_S64x256_S64x128_0_128).emb (ix2 g c) : S64x256.Idx) = ix2 g (⟨128 + c.val, by omega⟩ : Fin 256) := by
    funext a
    apply Fin.ext
    rw [ValueKit.rect_emb_unit_val]
    match a with
    | ⟨0, _⟩ => exact Nat.zero_add _
    | ⟨1, _⟩ => rfl
  have hc : (⟨128 + c.val - 128, by omega⟩ : Fin 128) = c := Fin.ext (by show 128 + c.val - 128 = c.val; omega)
  unfold sqV
  rw [e, ss_apply w1 b1 fe sg σ x hσ hx, dif_neg (by show ¬ 128 + c.val < 128; omega)]
  simp only [hc]

include hσ hx in
/-- The rows centred and cut, before the store, -/
theorem pay15_apply (b : Fin 8) (r : Fin 16384) (c : Fin 128) :
    k0_pay15 (cntV sg 8) (sumV w1 b1 fe sg) (sg b) (xbV w1 b1 fe b) (ix2 r c) = cut σ (x c) (row b r) := by
  have hn := cnt_apply sg σ hσ
  have hs := sum_apply w1 b1 fe sg σ x hσ hx
  have hb := xb_apply w1 b1 fe x hx b r c
  generalize cntV sg 8 = n at hn ⊢
  generalize sumV w1 b1 fe sg = d at hs ⊢
  generalize xbV w1 b1 fe b = v at hb ⊢
  pointwise [k0_pay15, k0_pay14, k0_pay13, k0_pay12]
  rw [hb]
  simp only [one_hot _ (σ (row b r)) _ (hσ b r), hn, hs]
  rw [sum_pick (σ (row b r)) fun g => Ideal.div (gsum σ (x c) g) (max (gsum σ (fun _ => 1) g) 1)]
  rfl
include hσ hx in
/-- and as stored. -/
theorem yb_apply (b : Fin 8) (r : Fin 16384) (c : Fin 128) : ybV w1 b1 fe sg b (ix2 r c) = cut σ (x c) (row b r) := by
  rw [← pay15_apply w1 b1 fe sg σ x hσ hx]
  unfold ybV
  pointwise [k0_pay16]

include hσ hx in
/-- Their sums. -/
theorem s2_apply (g : Fin 64) (c : Fin 128) : s2V w1 b1 fe sg 8 (ix2 g c) = gsum σ (cut σ (x c)) g := by
  rw [gsum_rows]
  refine acc_blocks (fun k => s2V w1 b1 fe sg k (ix2 g c)) (fun b => ∑ r, (if σ (row b r) = g then 1 else 0 : EReal) * cut σ (x c) (row b r)) ?_ fun k => ?_
  · show k0_pay8 (F := Ideal) (ix2 g c) = 0
    pointwise [k0_pay8]
  · show k0_pay17 (cntV sg 8) (sumV w1 b1 fe sg) (sg (Ring.bk 8 k)) (xbV w1 b1 fe (Ring.bk 8 k)) (s2V w1 b1 fe sg k) (ix2 g c) = _
    pointwise [k0_pay17, k0_pay14]
    refine congrArg (_ + ·) (Finset.sum_congr rfl fun r _ => ?_)
    rw [one_hot g (σ (row (Ring.bk 8 k) r)) _ (hσ _ r), pay15_apply w1 b1 fe sg σ x hσ hx]

include hσ hx hw in
/-- The factor of each segment and channel. -/
theorem rg_apply (g : Fin 64) (c : Fin 128) : rgV w1 b1 fe sg tw (ix2 g c)
    = rstd eps σ (x c) g * Ideal.div 1 (1 + Ideal.exp (- conv w (fun j => pooled eps σ (x j) g) c)) := by
  unfold rgV
  have hn := cnt_apply sg σ hσ
  have hs := sum_apply w1 b1 fe sg σ x hσ hx
  have hq := sq_apply w1 b1 fe sg σ x hσ hx
  have h2 := s2_apply w1 b1 fe sg σ x hσ hx
  generalize cntV sg 8 = n at hn ⊢
  generalize sumV w1 b1 fe sg = d at hs ⊢
  generalize sqV w1 b1 fe sg = q at hq ⊢
  generalize s2V w1 b1 fe sg 8 = y at h2 ⊢
  pointwise [k0_pay18, k0_pay13, k0_pay12]
  simp only [hn, hs, hq, h2, hw]
  rw [← sum_band]
  rfl

include hσ hx hw in
/-- A block of the result. -/
theorem ob_apply (b : Fin 8) (r : Fin 16384) (c : Fin 128) : k0_pay19 (rgV w1 b1 fe sg tw) (sg b) (ybV w1 b1 fe sg b) (ix3 0 r c) = result eps w σ x (row b r) c := by
  pointwise [k0_pay19]
  rw [yb_apply w1 b1 fe sg σ x hσ hx]
  simp only [one_hot _ (σ (row b r)) _ (hσ b r), rg_apply w1 b1 fe sg tw σ x w hσ hx hw]
  rw [sum_pick (σ (row b r)) fun g => rstd eps σ (x c) g * Ideal.div 1 (1 + Ideal.exp (- conv w (fun j => pooled eps σ (x j) g) c))]
  rfl

/-- A row and a column, in a block of one leading axis. -/
theorem slot_index (r : Fin 16384) (c : Fin 128) :
    (Shape.reshapeEquiv squeezes_S1x16384x128_S16384x128.numel_eq (ix2 r c : S16384x128.Idx) : S1x16384x128.Idx) = ix3 0 r c := by
  rw [Shape.reshapeEquiv_cons_one]
  funext a
  match a with
  | ⟨0, _⟩ => rfl
  | ⟨1, _⟩ => rfl
  | ⟨2, _⟩ => rfl

include hσ hx hw in
/-- The result. -/
theorem out_apply (n : Fin 131072) (c : Fin 128) : outV w1 b1 fe sg tw (ix2 n c) = result eps w σ x n c := by
  have hn : row ⟨n.val / 16384, by omega⟩ ⟨n.val % 16384, Nat.mod_lt _ (by decide)⟩ = n := Fin.ext (Nat.div_add_mod _ _)
  have h := ob_apply w1 b1 fe sg tw σ x w hσ hx hw ⟨n.val / 16384, by omega⟩ ⟨n.val % 16384, Nat.mod_lt _ (by decide)⟩ c
  rw [hn] at h
  rw [← h, ← slot_index]
  rfl
end Values
end Cert.KernelIdeal.Hand
-- ==== Proof.KernelInput.lean ====
/-
  What the kernel's loops read, in the arguments at launch.
-/
module

public import proofs.«01_k».proof.Proof.Run
public import proofs.«01_k».proof.Proof.KernelValue
public import Idealize.ShloMosaic.Lib.StableHlo.ReadAt
public import Idealize.ShloMosaic.Lib.Pipeline.ValueKit
public import Idealize.ShloMosaic.Lib.VecWindow

@[expose] public section

set_option maxRecDepth 16384

noncomputable section

namespace Cert.KernelIdeal.Hand

open Cert.KernelIdeal Cert.KernelIdeal.Gen Cert.Spec
open Idealize.ShloMosaic
open Idealize.ShloMosaic.TcCoe Idealize.ShloMosaic.Tactic

variable (m : (ℓ : Loc nD τ sig) → Buf (Elt Ideal) ℓ) (d : Dev nD)

/-! ## The host's arrays at an index -/

/-- The segment words in blocks. -/
theorem segments_at (b : Fin 8) (r : Fin 16384) :
    (V m d main_v0 : IVec S8x1x16384 32) (ix3 b 0 r) = (m ((d : Thread nD τ).loc main_arg1) : IVec S131072 32) (ix1 (row b r)) := by
  unfold V
  after_reads_at
  exact congrArg (fun n : Fin 131072 => (m ((d : Thread nD τ).loc main_arg1) : IVec S131072 32) (ix1 n)) (Fin.ext (by show b.val * 16384 + r.val = 16384 * b.val + r.val; omega))

/-- The bias as a row. -/
theorem bias_at (c : Fin 128) :
    (V m d main_v1 : FVec Ideal S1x128 .f32) (ix2 0 c) = (m ((d : Thread nD τ).loc main_arg3) : FVec Ideal S128 .f32) (ix1 c) := by
  unfold V
  after_reads_at

/-- A comparison of words of small numbers, as a number: one where the numbers are the same. -/
theorem diagonal (u v : BitVec 32) (p : Prop) [Decidable p] (h : u = v ↔ p) :
    FloatOps.uitofp (F := Ideal) .f32 (IntOp.cmpi .eq u v) = (if p then 1 else 0 : EReal) := by
  have e : IntOp.cmpi .eq u v = BitVec.ofBool (decide p) := by
    show BitVec.ofBool (u == v) = _
    congr 1
    rw [Bool.eq_iff_iff, beq_iff_eq, decide_eq_true_iff, h]
  rw [e]
  by_cases hp : p
  · rw [if_pos hp, decide_eq_true hp]
    show (((1#1 : BitVec 1).toNat : ℝ) : EReal) = 1
    simp
  · rw [if_neg hp, decide_eq_false hp]
    show (((0#1 : BitVec 1).toNat : ℝ) : EReal) = 0
    simp

/-- Words of small numbers are the same where the numbers are. -/
theorem word_eq (n : ℕ) (hn : n < 129) (k : Fin 128) : BitVec.ofNat 32 n = BitVec.ofNat 32 k.val ↔ n = k.val := by
  constructor
  · intro e
    have := congrArg BitVec.toNat e
    simp only [BitVec.toNat_ofNat] at this
    omega
  · rintro rfl; rfl

/-- The three diagonals, each as its comparison of words. -/
theorem above (j c : Fin 128) : IntOp.addi (BitVec.ofNat 32 j.val) 1#32 = BitVec.ofNat 32 c.val ↔ j.val + 1 = c.val := by
  rw [← word_eq (j.val + 1) (by omega) c, BitVec.ofNat_add]
  exact Iff.rfl
theorem onto (j c : Fin 128) : IntOp.addi (BitVec.ofNat 32 j.val) 0#32 = BitVec.ofNat 32 c.val ↔ j = c := by
  rw [Fin.ext_iff, ← word_eq j.val (by omega) c]
  unfold IntOp.addi
  rw [BitVec.add_zero]
theorem below (j c : Fin 128) : IntOp.addi (BitVec.ofNat 32 j.val) 4294967295#32 = BitVec.ofNat 32 c.val ↔ j.val = c.val + 1 := by
  unfold IntOp.addi
  rw [← BitVec.toNat_inj, BitVec.toNat_add, BitVec.toNat_ofNat, BitVec.toNat_ofNat, BitVec.toNat_ofNat]
  omega

/-- The sum of the three diagonals is the banded matrix. -/
theorem band_of (w : Fin 3 → EReal) (j c : Fin 128) :
    w 0 * FloatOps.uitofp (F := Ideal) .f32 (IntOp.cmpi .eq (IntOp.addi (BitVec.ofNat 32 j.val) 1#32) (BitVec.ofNat 32 c.val))
      + w 1 * FloatOps.uitofp (F := Ideal) .f32 (IntOp.cmpi .eq (IntOp.addi (BitVec.ofNat 32 j.val) 0#32) (BitVec.ofNat 32 c.val))
      + w 2 * FloatOps.uitofp (F := Ideal) .f32 (IntOp.cmpi .eq (IntOp.addi (BitVec.ofNat 32 j.val) 4294967295#32) (BitVec.ofNat 32 c.val)) = band w j c := by
  rw [diagonal _ _ _ (above j c), diagonal _ _ _ (onto j c), diagonal _ _ _ (below j c), band]

/-- The banded matrix. -/
theorem band_at (j c : Fin 128) :
    (V m d main_v33 : FVec Ideal S128x128 .f32) (ix2 j c) = band (fun i => (m ((d : Thread nD τ).loc main_arg4) : FVec Ideal S3 .f32) (ix1 i)) j c := by
  rw [← band_of]
  unfold V
  after_reads_at

/-! ## The windows' blocks: each is its whole array -/

theorem iblk0 (i : S8x1x16384.Idx) : (iblk m d 0 t0_0 : IVec S8x1x16384 32) i = (V m d main_v0 : IVec S8x1x16384 32) i := by
  unfold iblk
  blk_simp
  refine congrArg (V m d main_v0 : IVec S8x1x16384 32) (funext fun a => Fin.ext ?_)
  show 0 * _ + 1 * (i a).val = (i a).val
  omega

theorem iblk1 (i : S128x128.Idx) : (iblk m d 1 t0_0 : FVec Ideal S128x128 .f32) i = (V m d main_arg2 : FVec Ideal S128x128 .f32) i := by
  unfold iblk
  blk_simp
  refine congrArg (V m d main_arg2 : FVec Ideal S128x128 .f32) (funext fun a => Fin.ext ?_)
  show 0 * _ + 1 * (i a).val = (i a).val
  omega
theorem iblk2 (i : S1x128.Idx) : (iblk m d 2 t0_0 : FVec Ideal S1x128 .f32) i = (V m d main_v1 : FVec Ideal S1x128 .f32) i := by
  unfold iblk
  blk_simp
  refine congrArg (V m d main_v1 : FVec Ideal S1x128 .f32) (funext fun a => Fin.ext ?_)
  show 0 * _ + 1 * (i a).val = (i a).val
  omega
theorem iblk3 (i : S128x128.Idx) : (iblk m d 3 t0_0 : FVec Ideal S128x128 .f32) i = (V m d main_v33 : FVec Ideal S128x128 .f32) i := by
  unfold iblk
  blk_simp
  refine congrArg (V m d main_v33 : FVec Ideal S128x128 .f32) (funext fun a => Fin.ext ?_)
  show 0 * _ + 1 * (i a).val = (i a).val
  omega

/-- A block's segment words. -/
theorem seg_block (b : Fin 8) (r : Fin 16384) :
    segv d (st0_0 t0_0) ((st0_0 t0_0).view.rep (iblk m d 0 t0_0)) b (ix3 0 0 r) = (V m d main_v0 : IVec S8x1x16384 32) (ix3 b 0 r) := by
  unfold segv
  rw [View.readAt_apply, View.read_rep]
  refine (iblk0 m d _).trans (congrArg (V m d main_v0 : IVec S8x1x16384 32) (funext fun a => Fin.ext ?_))
  match a with
  | 0 => show b.val + 1 * 0 = b.val; omega
  | 1 => rfl
  | 2 => show 0 + 1 * r.val = r.val; omega

/-- A block's features. -/
theorem feat_block (a0 : FVec Ideal S131072x128 .f32) (b : Fin 8) (r : Fin 16384) (k : Fin 128) :
    fval (F := Ideal) d a0 b (ix3 0 r k) = a0 (ix2 (row b r) k) := by
  have e : Shape.reshapeEquiv squeezes_S1x16384x128_S16384x128.numel_eq.symm (ix3 0 r k : S1x16384x128.Idx) = (ix2 r k : S16384x128.Idx) := by
    rw [← slot_index, Shape.reshapeEquiv_reshapeEquiv, Shape.reshapeEquiv_self]
  unfold fval cargo fblk
  rw [e]
  show a0 ((blkRect b).emb (ix2 r k)) = _
  refine congrArg a0 (funext fun a => Fin.ext ?_)
  match a with
  | 0 => exact ValueKit.rect_emb_unit_val (s := S131072x128) _ _ (blkOff_inb b) _ 0
  | 1 => exact (ValueKit.rect_emb_unit_val (s := S131072x128) _ _ (blkOff_inb b) _ 1).trans (Nat.zero_add _)

/-! ## What the loops read, and the result -/

/-- The projection's weights, -/
theorem w1_at (k c : Fin 128) : w1v d (st0_1 t0_0) ((st0_1 t0_0).view.rep (iblk m d 1 t0_0)) (ix2 k c)
    = (m ((d : Thread nD τ).loc main_arg2) : FVec Ideal S128x128 .f32) (ix2 k c) := by
  have e : ∀ f : FVec Ideal S128x128 .f32, k0_pay9 (F := Ideal) f (ix2 k c) = f (ix2 k c) := by
    intro f; pointwise [k0_pay9]
  unfold w1v
  rw [View.readAt_rep_full]
  exact (e _).trans ((iblk1 m d _).trans (congrFun (V_main_arg2 m d) (ix2 k c)))
/-- its bias, -/
theorem b1_at (c : Fin 128) : b1v d (st0_2 t0_0) ((st0_2 t0_0).view.rep (iblk m d 2 t0_0)) (ix2 0 c)
    = (m ((d : Thread nD τ).loc main_arg3) : FVec Ideal S128 .f32) (ix1 c) := by
  have e : ∀ f : FVec Ideal S1x128 .f32, k0_pay10 (F := Ideal) f (ix2 0 c) = f (ix2 0 c) := by
    intro f; pointwise [k0_pay10]
  unfold b1v
  rw [View.readAt_rep_full]
  exact (e _).trans ((iblk2 m d _).trans (bias_at m d c))
/-- and the banded matrix of the convolution. -/
theorem taps_at (j c : Fin 128) : v34F d (st0_3 t0_0) ((st0_3 t0_0).view.rep (iblk m d 3 t0_0)) (ix2 j c)
    = band (fun i => (m ((d : Thread nD τ).loc main_arg4) : FVec Ideal S3 .f32) (ix1 i)) j c := by
  unfold v34F
  rw [View.readAt_rep_full]
  exact (iblk3 m d _).trans (band_at m d j c)

/-- **The kernel's result**, segments named by `σ` and the projected rows' columns by `x`. -/
theorem result_apply (a0 : FVec Ideal S131072x128 .f32) (a1 : IVec S131072 32)
    (a2 : FVec Ideal S128x128 .f32) (a3 : FVec Ideal S128 .f32) (a4 : FVec Ideal S3 .f32)
    (h0 : m ((d : Thread nD τ).loc main_arg0) = a0) (h1 : m ((d : Thread nD τ).loc main_arg1) = a1) (h2 : m ((d : Thread nD τ).loc main_arg2) = a2)
    (h3 : m ((d : Thread nD τ).loc main_arg3) = a3) (h4 : m ((d : Thread nD τ).loc main_arg4) = a4)
    (σ : Fin 131072 → Fin 64) (hσ : ∀ n, a1 (ix1 n) = BitVec.ofNat 32 (σ n).val) (x : Fin 128 → Fin 131072 → EReal)
    (hx : ∀ n c, (∑ k, a0 (ix2 n k) * a2 (ix2 k c)) + a3 (ix1 c) = x c n) (n : Fin 131072) (c : Fin 128) :
    resultOf m d (ix2 n c) = result eps (fun i => a4 (ix1 i)) σ x n c := by
  subst h0 h1 h2 h3 h4
  unfold resultOf outG
  refine out_apply _ _ _ _ _ σ x _ (fun b r => ?_) (fun b r c => ?_) (fun j c => taps_at m d j c) n c
  · rw [seg_block, segments_at, hσ]
  · rw [b1_at, ← hx]
    refine congrArg (· + _) (Finset.sum_congr rfl fun k _ => ?_)
    rw [w1_at, V_main_arg0, feat_block]

end Cert.KernelIdeal.Hand
-- ==== Proof.RefValue.lean ====
/-
  The reference's result at the extended reals: its accumulating scatter is the sum over a segment, its gather takes a
  segment's entry, its padded slices are the neighbours of a channel, and the result is the one the arithmetic module
  names.
-/
module

public import proofs.«01_k».proof.Proof.Gen.ReferenceIdeal.Run
public import proofs.«01_k».proof.Proof.Spec
public import Idealize.ShloMosaic.Lib.Pointwise
public import Idealize.ShloMosaic.Lib.Pointwise.IndexBridge
public import Idealize.ShloMosaic.Lib.Routing.Ops
public import Idealize.ShloMosaic.Lib.Routing.OpsPair

@[expose] public section

set_option maxRecDepth 16384

noncomputable section

namespace Cert.ReferenceIdeal.Hand

open Cert.ReferenceIdeal Cert.ReferenceIdeal.Gen
open Idealize.ShloMosaic
open Cert.Spec

/-! ## The accumulating scatter -/

/-- Row scatter into 64 segments, `B` channels wide. -/
abbrev seatDims (B : ℕ) (h : ScatterDims.WF ⟨2, ![64, B]⟩ ⟨2, ![131072, 1]⟩ ⟨2, ![131072, B]⟩ [1] [0] [0] 1) :
    ScatterDims ⟨2, ![64, B]⟩ ⟨2, ![131072, 1]⟩ ⟨2, ![131072, B]⟩ := ⟨[1], [0], [0], 1, h⟩

/-- Row `n` lands in its segment's row, at its own channel. -/
theorem lands {B : ℕ} (h : ScatterDims.WF ⟨2, ![64, B]⟩ ⟨2, ![131072, 1]⟩ ⟨2, ![131072, B]⟩ [1] [0] [0] 1)
    (idx : IVec ⟨2, ![131072, 1]⟩ 32) (n : Fin 131072) (c : Fin B) (s : Fin 64) (hs : idx (ix2 n 0) = BitVec.ofNat 32 s.val) :
    (seatDims B h).resultIdx? (ix2 n c) idx = some (ix2 s c) := by
  have hi : ∀ k, (seatDims B h).siIdx (ix2 n c) k = ix2 n 0 := by
    intro k
    funext b
    match b with
    | ⟨0, _⟩ => rfl
    | ⟨1, _⟩ => exact Subsingleton.elim (α := Fin 1) _ _
  have hv : (BitVec.ofNat 32 s.val).toInt = (s.val : ℤ) := by
    have := s.isLt
    rw [BitVec.toInt_eq_toNat_of_lt (by rw [BitVec.toNat_ofNat]; omega), BitVec.toNat_ofNat]
    omega
  have s0 : (seatDims B h).start (ix2 n c) idx (0 : Fin 2) = s.val := by
    show (idx ((seatDims B h).siIdx (ix2 n c) _)).toInt = _
    rw [hi, hs, hv]
  have s1 : (seatDims B h).start (ix2 n c) idx (1 : Fin 2) = 0 := rfl
  have w0 : (seatDims B h).window (ix2 n c) (0 : Fin 2) = 0 := rfl
  have w1 : (seatDims B h).window (ix2 n c) (1 : Fin 2) = c.val := rfl
  have hin : ∀ a : Fin 2, 0 ≤ (seatDims B h).start (ix2 n c) idx a + (seatDims B h).window (ix2 n c) a
      ∧ (seatDims B h).start (ix2 n c) idx a + (seatDims B h).window (ix2 n c) a < ((![64, B] a : ℕ) : ℤ) := by
    intro a
    match a with
    | ⟨0, _⟩ =>
      show 0 ≤ (seatDims B h).start (ix2 n c) idx 0 + (seatDims B h).window (ix2 n c) 0
        ∧ (seatDims B h).start (ix2 n c) idx 0 + (seatDims B h).window (ix2 n c) 0 < 64
      rw [s0, w0]; have := s.isLt; omega
    | ⟨1, _⟩ =>
      show 0 ≤ (seatDims B h).start (ix2 n c) idx 1 + (seatDims B h).window (ix2 n c) 1
        ∧ (seatDims B h).start (ix2 n c) idx 1 + (seatDims B h).window (ix2 n c) 1 < B
      rw [s1, w1]; have := c.isLt; omega
  unfold ScatterDims.resultIdx?
  rw [dif_pos hin]
  congr 1
  funext a
  apply Fin.ext
  match a with
  | ⟨0, _⟩ =>
    show ((seatDims B h).start (ix2 n c) idx 0 + (seatDims B h).window (ix2 n c) 0).toNat = s.val
    rw [s0, w0]; omega
  | ⟨1, _⟩ =>
    show ((seatDims B h).start (ix2 n c) idx 1 + (seatDims B h).window (ix2 n c) 1).toNat = c.val
    rw [s1, w1]; omega

/-- Onto zero, the scatter is the sum over each segment. -/
theorem scatter_apply {B : ℕ} (h : ScatterDims.WF ⟨2, ![64, B]⟩ ⟨2, ![131072, 1]⟩ ⟨2, ![131072, B]⟩ [1] [0] [0] 1)
    (z : FVec Ideal ⟨2, ![64, B]⟩ .f32) (idx : IVec ⟨2, ![131072, 1]⟩ 32) (X : FVec Ideal ⟨2, ![131072, B]⟩ .f32) (σ : Fin 131072 → Fin 64)
    (hσ : ∀ n, idx (ix2 n 0) = BitVec.ofNat 32 (σ n).val) (g : Fin 64) (c : Fin B) (hz : z (ix2 g c) = 0) :
    Host.scatterAdd (seatDims B h) z idx X (ix2 g c) = gsum σ (fun n => X (ix2 n c)) g := by
  show z (ix2 g c) + ∑ j ∈ Finset.univ.filter (fun j => (seatDims B h).resultIdx? j idx = some (ix2 g c)), X j = _
  rw [hz, zero_add, Finset.sum_filter, sum_idx2, gsum]
  refine Finset.sum_congr rfl fun n _ => ?_
  rw [Finset.sum_eq_single c]
  · rw [lands h idx n c (σ n) (hσ n)]
    by_cases e : σ n = g
    · rw [if_pos e, if_pos (by rw [e])]
    · rw [if_neg e, if_neg fun t => e (congrFun (Option.some.inj t) 0)]
  · intro k _ hk
    rw [lands h idx n k (σ n) (hσ n), if_neg fun t => hk (congrFun (Option.some.inj t) 1)]
  · intro hc; exact absurd (Finset.mem_univ c) hc

/-! ## The reference's stages -/

/-- The projected rows. -/
def proj (a0 : FVec Ideal S131072x128 .f32) (a2 : FVec Ideal S128x128 .f32) (a3 : FVec Ideal S128 .f32) : FVec Ideal S131072x128 .f32 :=
  addf (Host.dotGeneral dot_S131072x128_S128x128_S131072x128_1_0_0_1_n_n none a0 a2)
    (broadcastInDim S131072x128 ![0, 1] bcast_S1x128_S131072x128_0_1 (broadcastInDim S1x128 ![1] bcast_S128_S1x128_1 a3))

variable (a1 : IVec S131072 32)

/-- The segments' words as the scatter reads them, -/
def seat : IVec S131072x1 32 := broadcastInDim S131072x1 ![0] bcast_S131072_S131072x1_0 a1
/-- and as the gather does. -/
def look : IVec S131072x1 32 :=
  broadcastInDim S131072x1 ![0] bcast_S131072_S131072x1_0
    (select (cmpi .slt a1 (broadcastInDim S131072 ![] bcast_S_S131072 (constantI S_ 32 0#32)))
      (addi a1 (broadcastInDim S131072 ![] bcast_S_S131072 (constantI S_ 32 64#32))) a1)
/-- The counts. -/
def tally : FVec Ideal S64x1 .f32 :=
  Host.scatterAdd scatter_S64x1_S131072x1_S131072x1_1_0_0_1 (broadcastInDim S64x1 ![] bcast_S_S64x1 (constant S_ .f32 0x00000000#32)) (seat a1)
    (broadcastInDim S131072x1 ![] bcast_S_S131072x1 (constant S_ .f32 0x3F800000#32))
/-- The sums over the segments, -/
def total (X : FVec Ideal S131072x128 .f32) : FVec Ideal S64x128 .f32 :=
  Host.scatterAdd scatter_S64x128_S131072x1_S131072x128_1_0_0_1 (broadcastInDim S64x128 ![] bcast_S_S64x128 (constant S_ .f32 0x00000000#32)) (seat a1) X
/-- the means, -/
def average (X : FVec Ideal S131072x128 .f32) : FVec Ideal S64x128 .f32 :=
  Host.divf (total a1 X) (broadcastInDim S64x128 ![0, 1] bcast_S64x1_S64x128_0_1
    (maximumf (tally a1) (broadcastInDim S64x1 ![] bcast_S_S64x1 (constant S_ .f32 0x3F800000#32))))
/-- and the variances. -/
def spread (X : FVec Ideal S131072x128 .f32) : FVec Ideal S64x128 .f32 :=
  subf (average a1 (mulf X X)) (mulf (average a1 X) (average a1 X))
/-- Each row's entry of a table by segment. -/
def pick (T : FVec Ideal S64x128 .f32) : FVec Ideal S131072x128 .f32 :=
  Host.gather gather_S64x128_S131072x1_S131072x128_1_0_n_n_0_1_1128 T (look a1)
/-- The normalized rows, cut at zero. -/
def normed (X : FVec Ideal S131072x128 .f32) : FVec Ideal S131072x128 .f32 :=
  maximumf (mulf (subf X (pick a1 (average a1 X)))
      (Host.rsqrt (addf (pick a1 (spread a1 X)) (broadcastInDim S131072x128 ![] bcast_S_S131072x128 (constant S_ .f32 0x3727C5AC#32)))))
    (broadcastInDim S131072x128 ![] bcast_S_S131072x128 (constant S_ .f32 0x00000000#32))
/-- A table padded by a channel on either side. -/
def padded (M : FVec Ideal S64x128 .f32) : FVec Ideal S64x130 .f32 :=
  pad S64x130 ![0, 1] ![0, 1] ![0, 0] M (sitofp .f32 (constantI S_ 32 0#32)) pads_S64x128_S64x130_000_110 h_S_
/-- The convolution over the channels, -/
def mixed (M : FVec Ideal S64x128 .f32) (a4 : FVec Ideal S3 .f32) : FVec Ideal S64x128 .f32 :=
  addf (addf (addf (broadcastInDim S64x128 ![] bcast_S_S64x128 (constant S_ .f32 0x00000000#32))
    (mulf (extractStridedSlice S64x128 ![0, 0] (padded M) slices_S64x130_S64x128_0_0)
      (broadcastInDim S64x128 ![] bcast_S_S64x128 (shapeCast _ (extractStridedSlice S1 ![0] a4 slices_S3_S1_0) shapeCasts_S1_S_))))
    (mulf (extractStridedSlice S64x128 ![0, 1] (padded M) slices_S64x130_S64x128_0_1)
      (broadcastInDim S64x128 ![] bcast_S_S64x128 (shapeCast _ (extractStridedSlice S1 ![1] a4 slices_S3_S1_1) shapeCasts_S1_S_))))
    (mulf (extractStridedSlice S64x128 ![0, 2] (padded M) slices_S64x130_S64x128_0_2)
      (broadcastInDim S64x128 ![] bcast_S_S64x128 (shapeCast _ (extractStridedSlice S1 ![2] a4 slices_S3_S1_2) shapeCasts_S1_S_)))
/-- and the gate it gives. -/
def gate (M : FVec Ideal S64x128 .f32) (a4 : FVec Ideal S3 .f32) : FVec Ideal S64x128 .f32 :=
  Host.divf (broadcastInDim S64x128 ![] bcast_S_S64x128 (constant S_ .f32 0x3F800000#32))
    (addf (broadcastInDim S64x128 ![] bcast_S_S64x128 (constant S_ .f32 0x3F800000#32)) (Host.exp (Host.negf (mixed M a4))))

/-- The stages compose to the reference's result. -/
theorem result_eq (m : (ℓ : Loc nD τ sig) → Buf (Elt Ideal) ℓ) (c : Dev nD) :
    Cert.ReferenceIdeal.Value.res_main_v81 m c
      = mulf (normed (m ((c.tc : Thread nD τ).loc main_arg1)) (proj (m ((c.tc : Thread nD τ).loc main_arg0)) (m ((c.tc : Thread nD τ).loc main_arg2)) (m ((c.tc : Thread nD τ).loc main_arg3))))
          (pick (m ((c.tc : Thread nD τ).loc main_arg1)) (gate (average (m ((c.tc : Thread nD τ).loc main_arg1))
            (normed (m ((c.tc : Thread nD τ).loc main_arg1)) (proj (m ((c.tc : Thread nD τ).loc main_arg0)) (m ((c.tc : Thread nD τ).loc main_arg2)) (m ((c.tc : Thread nD τ).loc main_arg3)))))
            (m ((c.tc : Thread nD τ).loc main_arg4)))) := by
  unfold Cert.ReferenceIdeal.Value.res_main_v81
  rfl

/-! ## The stages at an index -/

section Read
variable (σ : Fin 131072 → Fin 64) (hσ : ∀ n, a1 (ix1 n) = BitVec.ofNat 32 (σ n).val)

/-- An entry of the projected rows. -/
theorem proj_apply (a0 : FVec Ideal S131072x128 .f32) (a2 : FVec Ideal S128x128 .f32) (a3 : FVec Ideal S128 .f32) (n : Fin 131072) (c : Fin 128) :
    proj a0 a2 a3 (ix2 n c) = (∑ k, a0 (ix2 n k) * a2 (ix2 k c)) + a3 (ix1 c) := by
  pointwise [proj]

include hσ in
/-- The scatter's index. -/
theorem seat_apply (n : Fin 131072) : seat a1 (ix2 n 0) = BitVec.ofNat 32 (σ n).val := by
  rw [← hσ]
  pointwise [seat]
include hσ in
/-- The gather's index. -/
theorem look_apply (n : Fin 131072) : look a1 (ix2 n 0) = BitVec.ofNat 32 (σ n).val := by
  have h : (a1 (ix1 n)).toNat < 2 ^ (32 - 1) := by
    rw [hσ, BitVec.toNat_ofNat]
    have := (σ n).isLt
    omega
  rw [← hσ, ← Routing.wrap_of_lt (a1 (ix1 n)) (IntOp.addi (a1 (ix1 n)) 64#32) h]
  pointwise [look]

include hσ in
/-- Each row's entry of a table. -/
theorem pick_apply (T : FVec Ideal S64x128 .f32) (n : Fin 131072) (c : Fin 128) : pick a1 T (ix2 n c) = T (ix2 (σ n) c) := by
  have h := look_apply a1 σ hσ n
  unfold pick
  simp only [ix2_eq_valueIdx] at h ⊢
  exact Routing.gather_row gather_S64x128_S131072x1_S131072x128_1_0_n_n_0_1_1128 rfl rfl rfl rfl rfl T (look a1) n c (σ n) h (by decide)

include hσ in
/-- The counts. -/
theorem tally_apply (g : Fin 64) : tally a1 (ix2 g 0) = gsum σ (fun _ => 1) g := by
  refine (scatter_apply scatter_S64x1_S131072x1_S131072x1_1_0_0_1_wf _ (seat a1) _ σ (seat_apply a1 σ hσ) g 0 ?_).trans ?_
  · pointwise
  · pointwise
include hσ in
/-- The means. -/
theorem average_apply (X : FVec Ideal S131072x128 .f32) (g : Fin 64) (c : Fin 128) :
    average a1 X (ix2 g c) = Ideal.div (gsum σ (fun n => X (ix2 n c)) g) (count σ g) := by
  have ht : total a1 X (ix2 g c) = gsum σ (fun n => X (ix2 n c)) g := by
    refine scatter_apply scatter_S64x128_S131072x1_S131072x128_1_0_0_1_wf _ (seat a1) X σ (seat_apply a1 σ hσ) g c ?_
    pointwise
  have hn := tally_apply a1 σ hσ g
  unfold average
  generalize total a1 X = t at ht ⊢
  generalize tally a1 = u at hn ⊢
  pointwise
  rw [ht, hn]
  rfl
include hσ in
/-- The variances. -/
theorem spread_apply (X : FVec Ideal S131072x128 .f32) (g : Fin 64) (c : Fin 128) : spread a1 X (ix2 g c) = var σ (fun n => X (ix2 n c)) g := by
  have h1 := average_apply a1 σ hσ X g c
  have h2 := average_apply a1 σ hσ (mulf X X) g c
  unfold spread
  generalize average a1 X = t at h1 ⊢
  generalize average a1 (mulf X X) = u at h2 ⊢
  pointwise
  rw [h1, h2]
  rfl
include hσ in
/-- The normalized rows. -/
theorem normed_apply (X : FVec Ideal S131072x128 .f32) (n : Fin 131072) (c : Fin 128) :
    normed a1 X (ix2 n c) = max ((X (ix2 n c) - mean σ (fun n => X (ix2 n c)) (σ n))
      * rstd (Ideal.ofBits .f32 0x3727C5AC#32) σ (fun n => X (ix2 n c)) (σ n)) 0 := by
  have h1 := (pick_apply a1 σ hσ (average a1 X) n c).trans (average_apply a1 σ hσ X (σ n) c)
  have h2 := (pick_apply a1 σ hσ (spread a1 X) n c).trans (spread_apply a1 σ hσ X (σ n) c)
  unfold normed
  generalize pick a1 (average a1 X) = t at h1 ⊢
  generalize pick a1 (spread a1 X) = u at h2 ⊢
  pointwise
  rw [h1, h2]
  rfl
end Read

/-- An entry of the padded table. -/
theorem padded_apply (M : FVec Ideal S64x128 .f32) (g : Fin 64) (c : Fin 130) :
    padded M (ix2 g c) = if h : 1 ≤ c.val ∧ c.val < 129 then M (ix2 g ⟨c.val - 1, by omega⟩) else 0 := by
  pointwise [padded]
  have h0 : (FloatOps.sitofp FTy.f32 (0#32) : Ideal FTy.f32) = (0 : EReal) := by
    show (((0#32 : BitVec 32).toInt : ℝ) : EReal) = 0
    simp
  by_cases h : 1 ≤ c.val ∧ c.val < 129
  · rw [dif_pos h, dif_pos (⟨h.1, by omega⟩ : 1 ≤ c.val ∧ c.val - 1 < 128)]
  · rw [dif_neg h, dif_neg (by omega : ¬(1 ≤ c.val ∧ c.val - 1 < 128))]
    exact h0

/-- The convolution over the channels. -/
theorem mixed_apply (M : FVec Ideal S64x128 .f32) (a4 : FVec Ideal S3 .f32) (g : Fin 64) (c : Fin 128) :
    mixed M a4 (ix2 g c) = conv (fun i => a4 (ix1 i)) (fun j => M (ix2 g j)) c := by
  have hp := padded_apply M g
  unfold mixed
  generalize padded M = P at hp ⊢
  pointwise
  rw [hp, hp, hp, conv]
  refine congrArg₂ (· + ·) (congrArg₂ (· + ·) (congrArg (· * _) ?_) (congrArg (· * _) ?_)) (congrArg (· * _) ?_)
  · by_cases h : 0 < c.val
    · rw [dif_pos h, dif_pos (show 1 ≤ c.val ∧ c.val < 129 by omega)]
    · rw [dif_neg h, dif_neg (show ¬(1 ≤ c.val ∧ c.val < 129) by omega)]
  · rw [dif_pos (show 1 ≤ 1 + c.val ∧ 1 + c.val < 129 by omega)]
    exact congrArg (fun j => M (ix2 g j)) (Fin.ext (by show 1 + c.val - 1 = c.val; omega))
  · by_cases h : c.val < 127
    · rw [dif_pos h, dif_pos (show 1 ≤ 2 + c.val ∧ 2 + c.val < 129 by omega)]
      exact congrArg (fun j => M (ix2 g j)) (Fin.ext (by show 2 + c.val - 1 = c.val + 1; omega))
    · rw [dif_neg h, dif_neg (show ¬(1 ≤ 2 + c.val ∧ 2 + c.val < 129) by omega)]

/-- The gate. -/
theorem gate_apply (M : FVec Ideal S64x128 .f32) (a4 : FVec Ideal S3 .f32) (g : Fin 64) (c : Fin 128) :
    gate M a4 (ix2 g c) = Ideal.div 1 (1 + Ideal.exp (- conv (fun i => a4 (ix1 i)) (fun j => M (ix2 g j)) c)) := by
  have h := mixed_apply M a4 g c
  unfold gate
  generalize mixed M a4 = P at h ⊢
  pointwise
  rw [h]

/-- **The reference's result**, the projected rows' columns `x` having no negative inverse deviation. -/
theorem result_apply (m : (ℓ : Loc nD τ sig) → Buf (Elt Ideal) ℓ) (d : Dev nD) (a0 : FVec Ideal S131072x128 .f32) (a1 : IVec S131072 32)
    (a2 : FVec Ideal S128x128 .f32) (a3 : FVec Ideal S128 .f32) (a4 : FVec Ideal S3 .f32)
    (h0 : m ((d.tc : Thread nD τ).loc main_arg0) = a0) (h1 : m ((d.tc : Thread nD τ).loc main_arg1) = a1) (h2 : m ((d.tc : Thread nD τ).loc main_arg2) = a2)
    (h3 : m ((d.tc : Thread nD τ).loc main_arg3) = a3) (h4 : m ((d.tc : Thread nD τ).loc main_arg4) = a4)
    (σ : Fin 131072 → Fin 64) (hσ : ∀ n, a1 (ix1 n) = BitVec.ofNat 32 (σ n).val) (x : Fin 128 → Fin 131072 → EReal)
    (hx : ∀ n c, (∑ k, a0 (ix2 n k) * a2 (ix2 k c)) + a3 (ix1 c) = x c n)
    (hr : ∀ c g, 0 ≤ rstd (Ideal.ofBits .f32 0x3727C5AC#32) σ (x c) g) (n : Fin 131072) (c : Fin 128) :
    Cert.ReferenceIdeal.Value.res_main_v81 m d (ix2 n c) = result (Ideal.ofBits .f32 0x3727C5AC#32) (fun i => a4 (ix1 i)) σ x n c := by
  rw [result_eq, h0, h1, h2, h3, h4]
  have hX : ∀ c, (fun n => proj a0 a2 a3 (ix2 n c)) = x c := fun c => funext fun n => (proj_apply a0 a2 a3 n c).trans (hx n c)
  have hN : ∀ n c, normed a1 (proj a0 a2 a3) (ix2 n c) = max ((x c n - mean σ (x c) (σ n)) * rstd (Ideal.ofBits .f32 0x3727C5AC#32) σ (x c) (σ n)) 0 := by
    intro n c
    rw [normed_apply a1 σ hσ, hX c, ← congrFun (hX c) n]
  have hA : ∀ g c, average a1 (normed a1 (proj a0 a2 a3)) (ix2 g c) = pooled (Ideal.ofBits .f32 0x3727C5AC#32) σ (x c) g := by
    intro g c
    rw [average_apply a1 σ hσ, ← pooled_eq _ σ (x c) (hr c) g]
    simp only [hN]
  have hG := (pick_apply a1 σ hσ (gate (average a1 (normed a1 (proj a0 a2 a3))) a4) n c).trans (gate_apply _ a4 (σ n) c)
  simp only [hA] at hG
  have hn := (hN n c).trans (norm_cut _ σ (x c) (hr c) n)
  generalize normed a1 (proj a0 a2 a3) = u at hn hG ⊢
  generalize pick a1 (gate (average a1 u) a4) = v at hG ⊢
  show u (ix2 n c) * v (ix2 n c) = _
  rw [hn, hG, result, mul_assoc]

end Cert.ReferenceIdeal.Hand
-- ==== Proof.Domain.lean ====
/-
  What the precondition says of the arguments: every segment word names one of the sixty-four segments, and every
  entry of the features, of the projection's weights and of its bias is a real.
-/
module

public import proofs.«01_k».proof.Pre_finite_in_range
public import proofs.«01_k».proof.Proof.Spec
public import Idealize.ShloMosaic.Lib.Pointwise
public import Idealize.ShloMosaic.Lib.ReduceAll
public import Idealize.ShloMosaic.Lib.WordCmp

@[expose] public section

set_option maxRecDepth 16384

noncomputable section

namespace Cert.Domain

open Cert.Pre_finite_in_range Cert.Spec
open Idealize.ShloMosaic

/-- The shape relations the precondition's operations take. -/
theorem facts : Cert.Pre_finite_in_range.Facts where
  bcast_S_S131072 := by decide
  reducesTo_S131072_S_d0 := by decide
  h_S_ := by decide
  bcast_S_S131072x128 := by decide
  reducesTo_S131072x128_S_d0_1 := by decide
  bcast_S_S128x128 := by decide
  reducesTo_S128x128_S_d0_1 := by decide
  bcast_S_S128 := by decide
  reducesTo_S128_S_d0 := by decide

/-- An extended real of absolute value below the infinite word's is a real. -/
theorem real_of_abs (a : EReal) (h : max a (-a) < Ideal.ofBits .f32 0x7F800000#32) : ∃ r : ℝ, a = ↑r := by
  have e : Ideal.ofBits .f32 0x7F800000#32 = ⊤ := by
    simp [Ideal.ofBits, Ideal.ieee]
  rw [e] at h
  induction a with
  | bot => simp at h
  | top => simp at h
  | coe r => exact ⟨r, rfl⟩

/-- The term added to the variance is a real, and not a negative one. -/
theorem eps_real : ∃ r : ℝ, 0 ≤ r ∧ Ideal.ofBits .f32 0x3727C5AC#32 = ↑r := by
  refine ⟨(1 : ℝ) * (2 ^ 23 + 2606508 : ℕ) * (2 : ℝ) ^ ((110 : ℤ) - (2 ^ (8 - 1) - 1) - 23), by positivity, ?_⟩
  simp [Ideal.ofBits, Ideal.ieee]

/-- A word at least zero and below sixty-four, read with its sign, is the word of its number. -/
theorem seg_word (v : BitVec 32) (h0 : IntOp.cmpi .sge v 0#32 = 1#1) (h1 : IntOp.cmpi .slt v 64#32 = 1#1) :
    v.toNat < 64 := by
  rw [WordCmp.cmpi_sge_zero] at h0
  have hn : v.toNat < 2 ^ 31 := by
    by_contra hn
    rw [decide_eq_false hn] at h0
    exact absurd h0 (by decide)
  rw [WordCmp.cmpi_slt_of_lt hn (by decide)] at h1
  by_contra hn
  rw [decide_eq_false (by simpa using hn)] at h1
  exact absurd h1 (by decide)

instance : Subsingleton S_.Idx := ⟨fun i j => funext fun k => k.elim0⟩

/-- An array whose absolute values are all below infinity holds reals. -/
theorem reals {s : Shape} {ax : List (Fin s.rank)} (a : FVec Ideal s .f32) (hb : S_.BroadcastsInDim s ![]) (hr : s.ReducesTo ax S_) (hp : 0 < S_.numel) (j : S_.Idx)
    (h : Host.reduce IntOp.andi (cmpf .olt (Host.absf a) (broadcastInDim s ![] hb (constant S_ .f32 0x7F800000#32))) (constantI S_ 1 1#1) hr hp j = 1#1)
    (i : s.Idx) : ∃ r : ℝ, a i = ↑r := by
  have e := Host.reduce_andi_all _ _ hr hp j h i
  refine real_of_abs (a i) ?_
  by_contra hn
  have e' : BitVec.ofBool (decide (max (a i) (-(a i)) < Ideal.ofBits .f32 0x7F800000#32)) = 1#1 := e
  rw [decide_eq_false hn] at e'
  exact absurd e' (by decide)

/-- **The precondition, read.** -/
theorem read (a0 : FVec Ideal S131072x128 .f32) (a1 : IVec S131072 32) (a2 : FVec Ideal S128x128 .f32) (a3 : FVec Ideal S128 .f32)
    (a4 : FVec Ideal S3 .f32) (h : @Cert.Pre_finite_in_range.fn facts Ideal _ a0 a1 a2 a3 a4 = fun _ => 1#1) :
    (∀ n, (a1 (ix1 n)).toNat < 64) ∧ (∀ i, ∃ r : ℝ, a0 i = ↑r) ∧ (∀ i, ∃ r : ℝ, a2 i = ↑r) ∧ ∀ i, ∃ r : ℝ, a3 i = ↑r := by
  have hj := congrFun h (fun k => k.elim0)
  unfold Cert.Pre_finite_in_range.fn Cert.Pre_finite_in_range.fn_part1 at hj
  dsimp only at hj
  obtain ⟨hj, h3⟩ := IntOp.andi_eq_one.1 hj
  obtain ⟨hj, h2⟩ := IntOp.andi_eq_one.1 hj
  obtain ⟨h1, h0⟩ := IntOp.andi_eq_one.1 hj
  refine ⟨fun n => ?_, reals a0 _ _ _ _ h0, reals a2 _ _ _ _ h2, reals a3 _ _ _ _ h3⟩
  obtain ⟨hge, hlt⟩ := IntOp.andi_eq_one.1 (Host.reduce_andi_all _ _ _ _ _ h1 (ix1 n))
  exact seg_word _ hge hlt

/-- **The columns of projected rows, segments named**: what the two programs' values are read over. -/
theorem columns (a0 : FVec Ideal S131072x128 .f32) (a1 : IVec S131072 32) (a2 : FVec Ideal S128x128 .f32) (a3 : FVec Ideal S128 .f32)
    (a4 : FVec Ideal S3 .f32) (h : @Cert.Pre_finite_in_range.fn facts Ideal _ a0 a1 a2 a3 a4 = fun _ => 1#1) :
    ∃ (σ : Fin 131072 → Fin 64) (x : Fin 128 → Fin 131072 → EReal), (∀ n, a1 (ix1 n) = BitVec.ofNat 32 (σ n).val)
      ∧ (∀ n c, (∑ k, a0 (ix2 n k) * a2 (ix2 k c)) + a3 (ix1 c) = x c n)
      ∧ ∀ c g, 0 ≤ rstd (Ideal.ofBits .f32 0x3727C5AC#32) σ (x c) g := by
  obtain ⟨h1, h0, h2, h3⟩ := read a0 a1 a2 a3 a4 h
  choose r0 e0 using h0
  choose r2 e2 using h2
  choose r3 e3 using h3
  refine ⟨fun n => ⟨(a1 (ix1 n)).toNat, h1 n⟩, fun c n => ((∑ k, r0 (ix2 n k) * r2 (ix2 k c) + r3 (ix1 c) : ℝ) : EReal), fun n => ?_, fun n c => ?_, fun c g => ?_⟩
  · exact BitVec.eq_of_toNat_eq (by rw [BitVec.toNat_ofNat]; exact (Nat.mod_eq_of_lt (lt_trans (h1 n) (by decide))).symm)
  · show _ = ((_ : ℝ) : EReal)
    rw [EReal.coe_add, ← coe_sum_real, e3]
    refine congrArg (· + _) (Finset.sum_congr rfl fun k _ => ?_)
    rw [EReal.coe_mul, e0, e2]
  · exact rstd_nonneg _ (by obtain ⟨r, hr, e⟩ := eps_real; exact ⟨r, hr, e⟩) _ _ ⟨_, fun n => rfl⟩ g

end Cert.Domain
-- ==== Proof.Equal.lean ====
/-
  The kernel and the reference compute one result: both are read over the same columns and segments.
-/
module

public import proofs.«01_k».proof.Defs
public import proofs.«01_k».proof.Proof.KernelInput
public import proofs.«01_k».proof.Proof.RefValue
public import proofs.«01_k».proof.Proof.Domain

@[expose] public section

set_option maxRecDepth 16384

noncomputable section

namespace Cert.Proof

open Idealize.ShloMosaic Idealize.SL.Sem

/-- Over the extended reals, where the precondition holds, the reference ends with the kernel's result. -/
theorem algebraic : Cert.algebraic_KernelIdeal_ReferenceIdeal_pre_finite_in_range (hKernelIdeal := Cert.KernelIdeal.Gen.facts)
    (hReferenceIdeal := Cert.ReferenceIdeal.Gen.facts) (hPre_finite_in_range := Cert.Domain.facts) := by
  intro m g m' g' hp he
  refine ⟨fun d => Cert.KernelIdeal.Hand.resultOf m d, (θ_run _ _ _).mono (fun _ h => h.1) (Cert.KernelIdeal.Hand.run_final (F := Ideal) m g), ?_⟩
  have key : ∀ d, Cert.ReferenceIdeal.Value.res_main_v81 m' d = Cert.KernelIdeal.Hand.resultOf m d := by
    intro d
    obtain ⟨σ, x, hσ, hx, hr⟩ := Cert.Domain.columns _ _ _ _ _ (hp d)
    obtain ⟨e0, e1, e2, e3, e4⟩ := he d
    funext i
    obtain ⟨n, c, rfl⟩ : ∃ n c, i = ix2 n c := ⟨i 0, i 1, eq_ix2 i⟩
    exact (Cert.ReferenceIdeal.Hand.result_apply m' d _ _ _ _ _ e0 e1 e2 e3 e4 σ hσ x hx hr n c).trans
      (Cert.KernelIdeal.Hand.result_apply m d _ _ _ _ _ rfl rfl rfl rfl rfl σ hσ x hx n c).symm
  exact (θ_run _ _ _).mono (fun _ h d => ⟨(h d).1.trans (key d), (h d).2⟩) (Cert.ReferenceIdeal.Value.run (F := Ideal) m' g')

end Cert.Proof

end
-- ==== Proof.lean ====
/- The proof of the certificate's claims. -/
module

public import proofs.«01_k».proof.Defs
public import proofs.«01_k».proof.Proof.Frames
public import proofs.«01_k».proof.Proof.Equal

@[expose] public section

noncomputable section

namespace Cert.Proof

open Idealize.ShloMosaic Idealize.SL.Sem Cert.Kernel

/-- Every claim. The frames hold of every input, so of those the precondition admits. -/
theorem claim : Cert.Claim := ⟨Cert.Kernel.Gen.facts, Cert.KernelIdeal.Gen.facts, Cert.ReferenceIdeal.Gen.facts, Cert.Domain.facts,
  frame_kernel, frame_ideal, fun m g _ => frame_ideal m g trivial, frame_reference, fun m g _ => frame_reference m g trivial, trivial, algebraic⟩

end Cert.Proof

end
